-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x640x7168 : Shape := ⟨3, ![12, 640, 7168]⟩
abbrev S3584x18432 : Shape := ⟨2, ![3584, 18432]⟩
abbrev S18432 : Shape := ⟨1, ![18432]⟩
abbrev S7680x7168 : Shape := ⟨2, ![7680, 7168]⟩
abbrev S7680x1 : Shape := ⟨2, ![7680, 1]⟩
abbrev S256x7168 : Shape := ⟨2, ![256, 7168]⟩
abbrev S256x1 : Shape := ⟨2, ![256, 1]⟩
abbrev S256 : Shape := ⟨1, ![256]⟩
abbrev S1x18432 : Shape := ⟨2, ![1, 18432]⟩
abbrev S7680x18432 : Shape := ⟨2, ![7680, 18432]⟩
abbrev S512x7168 : Shape := ⟨2, ![512, 7168]⟩
abbrev S512x1 : Shape := ⟨2, ![512, 1]⟩
abbrev S3584x512 : Shape := ⟨2, ![3584, 512]⟩
abbrev S1x512 : Shape := ⟨2, ![1, 512]⟩
abbrev S512x512 : Shape := ⟨2, ![512, 512]⟩
abbrev S7168x512 : Shape := ⟨2, ![7168, 512]⟩
abbrev S12x640x18432 : Shape := ⟨3, ![12, 640, 18432]⟩
abbrev S12x640 : Shape := ⟨2, ![12, 640]⟩

abbrev nBuf : Space → Nat
  | .hbm => 14
  | .vmem => 22
  | .smem => 0
  | _ => 0

abbrev bufTy : (tb : Table) → Fin (tcTables nBuf tb) → BufTy
  | .hbm, ⟨0, _⟩ => ⟨S12x640x7168, .bf16⟩
  | .hbm, ⟨1, _⟩ => ⟨S3584x18432, .i8⟩
  | .hbm, ⟨2, _⟩ => ⟨S18432, .f32⟩
  | .hbm, ⟨3, _⟩ => ⟨S3584x18432, .i8⟩
  | .hbm, ⟨4, _⟩ => ⟨S18432, .f32⟩
  | .hbm, ⟨5, _⟩ => ⟨S7680x7168, .bf16⟩
  | .hbm, ⟨6, _⟩ => ⟨S7680x7168, .i8⟩
  | .hbm, ⟨7, _⟩ => ⟨S7680x1, .f32⟩
  | .hbm, ⟨8, _⟩ => ⟨S1x18432, .f32⟩
  | .hbm, ⟨9, _⟩ => ⟨S1x18432, .f32⟩
  | .hbm, ⟨10, _⟩ => ⟨S7680x18432, .bf16⟩
  | .hbm, ⟨11, _⟩ => ⟨S12x640x18432, .bf16⟩
  | .hbm, ⟨12, _⟩ => ⟨S12x640x7168, .i8⟩
  | .hbm, ⟨13, _⟩ => ⟨S12x640, .f32⟩
  | .local _ .vmem, ⟨0, _⟩ => ⟨S256x7168, .bf16⟩
  | .local _ .vmem, ⟨1, _⟩ => ⟨S256x7168, .bf16⟩
  | .local _ .vmem, ⟨2, _⟩ => ⟨S256x7168, .i8⟩
  | .local _ .vmem, ⟨3, _⟩ => ⟨S256x7168, .i8⟩
  | .local _ .vmem, ⟨4, _⟩ => ⟨S256x1, .f32⟩
  | .local _ .vmem, ⟨5, _⟩ => ⟨S256x1, .f32⟩
  | .local _ .vmem, ⟨6, _⟩ => ⟨S512x7168, .i8⟩
  | .local _ .vmem, ⟨7, _⟩ => ⟨S512x7168, .i8⟩
  | .local _ .vmem, ⟨8, _⟩ => ⟨S512x1, .f32⟩
  | .local _ .vmem, ⟨9, _⟩ => ⟨S512x1, .f32⟩
  | .local _ .vmem, ⟨10, _⟩ => ⟨S3584x512, .i8⟩
  | .local _ .vmem, ⟨11, _⟩ => ⟨S3584x512, .i8⟩
  | .local _ .vmem, ⟨12, _⟩ => ⟨S1x512, .f32⟩
  | .local _ .vmem, ⟨13, _⟩ => ⟨S1x512, .f32⟩
  | .local _ .vmem, ⟨14, _⟩ => ⟨S3584x512, .i8⟩
  | .local _ .vmem, ⟨15, _⟩ => ⟨S3584x512, .i8⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S7168x512, .bf16⟩
  | .local _ .vmem, ⟨21, _⟩ => ⟨S7168x512, .bf16⟩
  | _, _ => ⟨S12x640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![36, 15], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x7168 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3584x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S3584x512 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S12x640x7168 : Shape := ⟨3, ![12, 640, 7168]⟩
abbrev S3584x18432 : Shape := ⟨2, ![3584, 18432]⟩
abbrev S18432 : Shape := ⟨1, ![18432]⟩
abbrev S_ : Shape := ⟨0, ![]⟩
abbrev S12x640 : Shape := ⟨2, ![12, 640]⟩
abbrev S12x640x1 : Shape := ⟨3, ![12, 640, 1]⟩
abbrev S12x640x3584 : Shape := ⟨3, ![12, 640, 3584]⟩
abbrev S12x640x18432 : Shape := ⟨3, ![12, 640, 18432]⟩
abbrev S1x1x18432 : Shape := ⟨3, ![1, 1, 18432]⟩

abbrev nBuf : Space → Nat
  | .hbm => 97
  | .vmem => 0
  | .smem => 0
  | _ => 0

abbrev bufTy : (tb : Table) → Fin (tcTables nBuf tb) → BufTy
  | .hbm, ⟨0, _⟩ => ⟨S12x640x7168, .bf16⟩
  | .hbm, ⟨1, _⟩ => ⟨S3584x18432, .i8⟩
  | .hbm, ⟨2, _⟩ => ⟨S18432, .f32⟩
  | .hbm, ⟨3, _⟩ => ⟨S3584x18432, .i8⟩
  | .hbm, ⟨4, _⟩ => ⟨S18432, .f32⟩
  | .hbm, ⟨5, _⟩ => ⟨S12x640x7168, .f32⟩
  | .hbm, ⟨6, _⟩ => ⟨S12x640x7168, .f32⟩
  | .hbm, ⟨7, _⟩ => ⟨S_, .f32⟩
  | .hbm, ⟨8, _⟩ => ⟨S12x640, .f32⟩
  | .hbm, ⟨9, _⟩ => ⟨S_, .f32⟩
  | .hbm, ⟨10, _⟩ => ⟨S12x640, .f32⟩
  | .hbm, ⟨11, _⟩ => ⟨S12x640, .i1⟩
  | .hbm, ⟨12, _⟩ => ⟨S_, .f32⟩
  | .hbm, ⟨13, _⟩ => ⟨S12x640, .f32⟩
  | .hbm, ⟨14, _⟩ => ⟨S12x640, .f32⟩
  | .hbm, ⟨15, _⟩ => ⟨S_, .f32⟩
  | .hbm, ⟨16, _⟩ => ⟨S_, .f32⟩
  | .hbm, ⟨17, _⟩ => ⟨S12x640, .f32⟩
  | .hbm, ⟨18, _⟩ => ⟨S12x640, .f32⟩
  | .hbm, ⟨19, _⟩ => ⟨S12x640x1, .f32⟩
  | .hbm, ⟨20, _⟩ => ⟨S12x640x7168, .f32⟩
  | .hbm, ⟨21, _⟩ => ⟨S12x640x7168, .f32⟩
  | .hbm, ⟨22, _⟩ => ⟨S12x640x7168, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S12x640x7168, .f32⟩
  | .hbm, ⟨27, _⟩ => ⟨S12x640x7168, .f32⟩
  | .hbm, ⟨28, _⟩ => ⟨S_, .f32⟩
  | .hbm, ⟨29, _⟩ => ⟨S12x640x7168, .f32⟩
  | .hbm, ⟨30, _⟩ => ⟨S12x640x7168, .f32⟩
  | .hbm, ⟨31, _⟩ => ⟨S12x640x7168, .i32⟩
  | .hbm, ⟨32, _⟩ => ⟨S12x640x7168, .i8⟩
  | .hbm, ⟨33, _⟩ => ⟨S12x640x3584, .i8⟩
  | .hbm, ⟨34, _⟩ => ⟨S12x640x3584, .i32⟩
  | .hbm, ⟨35, _⟩ => ⟨S12x640x3584, .bf16⟩
  | .hbm, ⟨36, _⟩ => ⟨S12x640x3584, .i8⟩
  | .hbm, ⟨37, _⟩ => ⟨S12x640x3584, .i32⟩
  | .hbm, ⟨38, _⟩ => ⟨S12x640x3584, .bf16⟩
  | .hbm, ⟨39, _⟩ => ⟨S12x640x1, .f32⟩
  | .hbm, ⟨40, _⟩ => ⟨S3584x18432, .i32⟩
  | .hbm, ⟨41, _⟩ => ⟨S_, .i32⟩
  | .hbm, ⟨42, _⟩ => ⟨S3584x18432, .i32⟩
  | .hbm, ⟨43, _⟩ => ⟨S3584x18432, .i32⟩
  | .hbm, ⟨44, _⟩ => ⟨S3584x18432, .bf16⟩
  | .hbm, ⟨45, _⟩ => ⟨S_, .bf16⟩
  | .hbm, ⟨46, _⟩ => ⟨S3584x18432, .bf16⟩
  | .hbm, ⟨47, _⟩ => ⟨S3584x18432, .bf16⟩
  | .hbm, ⟨48, _⟩ => ⟨S_, .i32⟩
  | .hbm, ⟨49, _⟩ => ⟨S3584x18432, .i32⟩
  | .hbm, ⟨50, _⟩ => ⟨S3584x18432, .i32⟩
  | .hbm, ⟨51, _⟩ => ⟨S3584x18432, .bf16⟩
  | .hbm, ⟨52, _⟩ => ⟨S_, .bf16⟩
  | .hbm, ⟨53, _⟩ => ⟨S3584x18432, .bf16⟩
  | .hbm, ⟨54, _⟩ => ⟨S3584x18432, .bf16⟩
  | .hbm, ⟨55, _⟩ => ⟨S12x640x18432, .f32⟩
  | .hbm, ⟨56, _⟩ => ⟨S12x640x18432, .f32⟩
  | .hbm, ⟨57, _⟩ => ⟨S12x640x18432, .f32⟩
  | .hbm, ⟨58, _⟩ => ⟨S12x640x18432, .f32⟩
  | .hbm, ⟨59, _⟩ => ⟨S12x640x18432, .f32⟩
  | .hbm, ⟨60, _⟩ => ⟨S1x1x18432, .f32⟩
  | .hbm, ⟨61, _⟩ => ⟨S12x640x18432, .f32⟩
  | .hbm, ⟨62, _⟩ => ⟨S12x640x18432, .f32⟩
  | .hbm, ⟨63, _⟩ => ⟨S3584x18432, .i32⟩
  | .hbm, ⟨64, _⟩ => ⟨S_, .i32⟩
  | .hbm, ⟨65, _⟩ => ⟨S3584x18432, .i32⟩
  | .hbm, ⟨66, _⟩ => ⟨S3584x18432, .i32⟩
  | .hbm, ⟨67, _⟩ => ⟨S3584x18432, .bf16⟩
  | .hbm, ⟨68, _⟩ => ⟨S_, .bf16⟩
  | .hbm, ⟨69, _⟩ => ⟨S3584x18432, .bf16⟩
  | .hbm, ⟨70, _⟩ => ⟨S3584x18432, .bf16⟩
  | .hbm, ⟨71, _⟩ => ⟨S_, .i32⟩
  | .hbm, ⟨72, _⟩ => ⟨S3584x18432, .i32⟩
  | .hbm, ⟨73, _⟩ => ⟨S3584x18432, .i32⟩
  | .hbm, ⟨74, _⟩ => ⟨S3584x18432, .bf16⟩
  | .hbm, ⟨75, _⟩ => ⟨S_, .bf16⟩
  | .hbm, ⟨76, _⟩ => ⟨S3584x18432, .bf16⟩
  | .hbm, ⟨77, _⟩ => ⟨S3584x18432, .bf16⟩
  | .hbm, ⟨78, _⟩ => ⟨S12x640x18432, .f32⟩
  | .hbm, ⟨79, _⟩ => ⟨S12x640x18432, .f32⟩
  | .hbm, ⟨80, _⟩ => ⟨S12x640x18432, .f32⟩
  | .hbm, ⟨81, _⟩ => ⟨S12x640x18432, .f32⟩
  | .hbm, ⟨82, _⟩ => ⟨S12x640x18432, .f32⟩
  | .hbm, ⟨83, _⟩ => ⟨S1x1x18432, .f32⟩
  | .hbm, ⟨84, _⟩ => ⟨S12x640x18432, .f32⟩
  | .hbm, ⟨85, _⟩ => ⟨S12x640x18432, .f32⟩
  | .hbm, ⟨86, _⟩ => ⟨S12x640x18432, .f32⟩
  | .hbm, ⟨87, _⟩ => ⟨S12x640x18432, .f32⟩
  | .hbm, ⟨88, _⟩ => ⟨S_, .f32⟩
  | .hbm, ⟨89, _⟩ => ⟨S12x640x18432, .f32⟩
  | .hbm, ⟨90, _⟩ => ⟨S12x640x18432, .f32⟩
  | .hbm, ⟨91, _⟩ => ⟨S_, .f32⟩
  | .hbm, ⟨92, _⟩ => ⟨S12x640x18432, .f32⟩
  | .hbm, ⟨93, _⟩ => ⟨S12x640x18432, .f32⟩
  | .hbm, ⟨94, _⟩ => ⟨S12x640x18432, .f32⟩
  | .hbm, ⟨95, _⟩ => ⟨S12x640x18432, .f32⟩
  | .hbm, ⟨96, _⟩ => ⟨S12x640x18432, .bf16⟩
  | _, _ => ⟨S12x640x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_c_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]
-- ==== Proof.Kernel.Region0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- a rectangle of the kernels' extents is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The offset of a whole access is zero. -/
theorem zeros2 : (![0, 0] : Fin 2 → ℕ) = fun _ => 0 := by decide

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-- Window 1's staging buffer after the body, from the input windows' blocks: its 1 store as pieces, LAST
    FIRST. -/
def out0_1 (x0 : Vec F S256x7168 .bf16) : Vec F S256x7168 .i8 :=
  View.canon [⟨r0_0, k0_pay3 (View.ld x0 r0_0)⟩]

/-- Its stores tile the buffer (checked by evaluation), so they cover it. -/
theorem cover0_1 (p0 : Vec F S256x7168 .i8) (y : S256x7168.Idx) :
    ∃ pc ∈ ([⟨r0_0, p0⟩] : List (View.Piece (Elt F) S256x7168 .i8)), y ∈ pc.1.set :=
  View.cover_of_tiled [⟨r0_0, p0⟩] S256x7168.size (by rfl) y

/-- Window 2's staging buffer after the body, from the input windows' blocks: its 1 store as pieces, LAST
    FIRST. -/
def out0_2 (x0 : Vec F S256x7168 .bf16) : Vec F S256x1 .f32 :=
  View.canon [⟨r0_1, k0_pay2 (View.ld x0 r0_0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-- So they are the payloads of the whole block: each buffer is read and stored whole. -/
theorem out0_1_eq (x0 : Vec F S256x7168 .bf16) : out0_1 x0 = k0_pay3 x0 := by
  unfold out0_1
  rw [View.canon_unit_zero (S := S256x7168) zeros2, View.ld_unit_zero (S := S256x7168) zeros2]
theorem out0_2_eq (x0 : Vec F S256x7168 .bf16) : out0_2 x0 = k0_pay2 x0 := by
  unfold out0_2
  rw [View.canon_unit_zero (S := S256x1) zeros2, View.ld_unit_zero (S := S256x7168) zeros2]

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S256x7168 .bf16) (harg1 : arg1.IsWhole) (arg2 : Memref sig .tc .vmem S256x7168 .i8) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: the library's `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Kernel.Region1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- a rectangle of the kernels' extents is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): the library's `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): the library's `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): the library's `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): the library's `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): the library's `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers and the scratch -/

/-- Each window's current staging memref at point `t`, spelled as the pipeline passes it (`bodyAt1`), and its wholeness. -/
abbrev ms1_0 (t : Fin cfg1.N) : Memref sig .tc .vmem S512x7168 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3584x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3584x512 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S7168x512 .bf16 := Memref.whole cc1_scratch0
abbrev scM1_1 : Memref sig .tc .vmem S7168x512 .bf16 := Memref.whole cc1_scratch1

/-- The frame kit's invariant with the scratch operands as memrefs owned at some contents (`Gen.scopedRest1_eq`,
    the library's `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## When the weights are unpacked -/

/-- The condition of the body's branch: the second grid coordinate, the row block, is zero. -/
abbrev cond1_0 (i : grid1.Coords) : Prop := (Scalar.cmpi .ne (Scalar.extui (Scalar.cmpi .eq (BitVec.ofNat 32 (i 1).val) 0#32)) 0#32) = 1#1
/-- It holds at the points that are multiples of 15: the first row block of each column block. -/
theorem hcond1_0 : ∀ t : Fin cfg1.N, cond1_0 (grid1.coords t) ↔ t.val % 15 = 0 :=
  (fun t => by
    have ht : t.val < 540 := Nat.lt_of_lt_of_eq t.isLt N_1
    have e0 : (grid1.coords t 0).val = t.val / 15 % 36 := Pipeline.Grid.coords_val t 0 (by decide) rfl
    have e1 : (grid1.coords t 1).val = t.val / 1 % 15 := Pipeline.Grid.coords_val t 1 (by decide) rfl
    simp only [cond1_0, e0, e1]
    word_cmp
   : ∀ t : Fin grid1.N, cond1_0 (grid1.coords t) ↔ t.val % 15 = 0)

/-! ## What the body leaves in the output's buffer and in the scratch -/

abbrev q_x : Rect S512x7168 := Rect.unit (s := S512x7168) ![0, 0] S512x7168.size inb_S512x7168_S512x7168_0_0
abbrev q_t : Rect S512x1 := Rect.unit (s := S512x1) ![0, 0] S512x1.size inb_S512x1_S512x1_0_0
abbrev q_w : Rect S3584x512 := Rect.unit (s := S3584x512) ![0, 0] S3584x512.size inb_S3584x512_S3584x512_0_0
abbrev q_c : Rect S1x512 := Rect.unit (s := S1x512) ![0, 0] S1x512.size inb_S1x512_S1x512_0_0
abbrev q_b : Rect S7168x512 := Rect.unit (s := S7168x512) ![0, 0] S7168x512.size inb_S7168x512_S7168x512_0_0
abbrev q_h : Rect S512x512 := Rect.unit (s := S512x512) ![0, 0] S512x512.size inb_S512x512_S512x512_0_0

/-- The first scratch after an unpacking point: the gate weights of the column block. -/
def sc1_0 (x2 : Vec F S3584x512 .i8) : Vec F S7168x512 .bf16 := View.canon [⟨q_b, k1_pay1 (View.ld x2 q_w)⟩]
/-- The second scratch after an unpacking point: the up weights of the column block. -/
def sc1_1 (x4 : Vec F S3584x512 .i8) : Vec F S7168x512 .bf16 := View.canon [⟨q_b, k1_pay2 (View.ld x4 q_w)⟩]
/-- The output's buffer after the body, from the input blocks and the two scratches. -/
def out1_6 (x0 : Vec F S512x7168 .i8) (x1 : Vec F S512x1 .f32) (x3 : Vec F S1x512 .f32) (x5 : Vec F S1x512 .f32)
    (b0 b1 : Vec F S7168x512 .bf16) : Vec F S512x512 .bf16 :=
  View.canon [⟨q_h, k1_pay3 (View.ld x0 q_x) (View.ld x1 q_t) (View.ld b0 q_b) (View.ld x3 q_c) (View.ld b1 q_b) (View.ld x5 q_c)⟩]

/-- One store of the whole buffer covers it. -/
theorem cover_b (p0 : Vec F S7168x512 .bf16) (y : S7168x512.Idx) :
    ∃ pc ∈ ([⟨q_b, p0⟩] : List (View.Piece (Elt F) S7168x512 .bf16)), y ∈ pc.1.set :=
  View.cover_of_tiled [⟨q_b, p0⟩] S7168x512.size (by rfl) y
theorem cover_h (p0 : Vec F S512x512 .bf16) (y : S512x512.Idx) :
    ∃ pc ∈ ([⟨q_h, p0⟩] : List (View.Piece (Elt F) S512x512 .bf16)), y ∈ pc.1.set :=
  View.cover_of_tiled [⟨q_h, p0⟩] S512x512.size (by rfl) y

/-- The offset of a whole access is zero. -/
theorem zeros2' : (![0, 0] : Fin 2 → ℕ) = fun _ => 0 := by decide
/-- Every buffer is read and stored whole, so these are the payloads of the whole blocks. -/
theorem sc1_0_eq (x2 : Vec F S3584x512 .i8) : sc1_0 x2 = k1_pay1 x2 := by
  unfold sc1_0
  rw [View.canon_unit_zero (S := S7168x512) zeros2', View.ld_unit_zero (S := S3584x512) zeros2']
theorem sc1_1_eq (x4 : Vec F S3584x512 .i8) : sc1_1 x4 = k1_pay2 x4 := by
  unfold sc1_1
  rw [View.canon_unit_zero (S := S7168x512) zeros2', View.ld_unit_zero (S := S3584x512) zeros2']
theorem out1_6_eq (x0 : Vec F S512x7168 .i8) (x1 : Vec F S512x1 .f32) (x3 : Vec F S1x512 .f32) (x5 : Vec F S1x512 .f32)
    (b0 b1 : Vec F S7168x512 .bf16) : out1_6 x0 x1 x3 x5 b0 b1 = k1_pay3 x0 x1 b0 x3 b1 x5 := by
  unfold out1_6
  rw [View.canon_unit_zero (S := S512x512) zeros2', View.ld_unit_zero (S := S512x7168) zeros2', View.ld_unit_zero (S := S512x1) zeros2',
    View.ld_unit_zero (S := S7168x512) zeros2', View.ld_unit_zero (S := S1x512) zeros2', View.ld_unit_zero (S := S7168x512) zeros2',
    View.ld_unit_zero (S := S1x512) zeros2']

/-! ## The body's triple, in each case of the branch -/

set_option maxHeartbeats 1000000 in
/-- At an unpacking point the body, on whole buffers with the inputs' contents given, fills both scratches from the
    weight blocks and the output from them. -/
theorem sound_kernel1_A (c : Dev nD) (E : Set ℕ) (i : grid1.Coords) (arg2 : Memref sig .tc .vmem S512x7168 .i8) (harg2 : arg2.IsWhole) (arg3 : Memref sig .tc .vmem S512x1 .f32) (harg3 : arg3.IsWhole) (arg4 : Memref sig .tc .vmem S3584x512 .i8) (harg4 : arg4.IsWhole) (arg5 : Memref sig .tc .vmem S1x512 .f32) (harg5 : arg5.IsWhole) (arg6 : Memref sig .tc .vmem S3584x512 .i8) (harg6 : arg6.IsWhole) (arg7 : Memref sig .tc .vmem S1x512 .f32) (harg7 : arg7.IsWhole) (arg8 : Memref sig .tc .vmem S512x512 .bf16) (harg8 : arg8.IsWhole) (arg9 : Memref sig .tc .vmem S7168x512 .bf16) (harg9 : arg9.IsWhole) (arg10 : Memref sig .tc .vmem S7168x512 .bf16) (harg10 : arg10.IsWhole) (hc0 : cond1_0 i)
    (x0 : Vec F S512x7168 .i8) (x1 : Vec F S512x1 .f32) (x2 : Vec F S3584x512 .i8) (x3 : Vec F S1x512 .f32) (x4 : Vec F S3584x512 .i8) (x5 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x3 x5 (sc1_0 x2) (sc1_1 x4)) ∗ owns (c : Thread nD τ) arg9 fullShare (sc1_0 x2) ∗ owns (c : Thread nD τ) arg10 fullShare (sc1_1 x4)) -∗ K ⟨⟩))
      ⊢ wp frame (wpE (defs₀ (F := F)) Variants.none c none) E (cc1_swiglu_matmul i arg2 harg2 arg3 harg3 arg4 harg4 arg5 harg5 arg6 harg6 arg7 harg7 arg8 harg8 arg9 harg9 arg10 harg10) K := by
  simp only [cc1_swiglu_matmul_eq_skeleton]; unfold cc1_swiglu_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0; subst hf1; subst hf2; subst hf3; subst hf4; subst hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_h _)).trans ?_
    unfold sound_kernel1_A.sl.v8 sound_kernel1_A.sl.v16 sound_kernel1_A.sl.HS0_1 sound_kernel1_A.sl.HS1_1
    rw [View.readCov_eq_canon_ld _ _ _ (cover_b _), View.readCov_eq_canon_ld _ _ _ (cover_b _)]
    rfl
  isplitl [HS0]
  · iexists _; isplitr
    swap; · iexact HS0
    ipureintro
    exact View.read_writes_eq_canon _ _ _ (cover_b _)
  iexists _; isplitr
  swap; · iexact HS1
  ipureintro
  exact View.read_writes_eq_canon _ _ _ (cover_b _)

set_option maxHeartbeats 1000000 in
/-- At any other point the body reads the scratches as they are, leaves them so, and fills the output. -/
theorem sound_kernel1_B (c : Dev nD) (E : Set ℕ) (i : grid1.Coords) (arg2 : Memref sig .tc .vmem S512x7168 .i8) (harg2 : arg2.IsWhole) (arg3 : Memref sig .tc .vmem S512x1 .f32) (harg3 : arg3.IsWhole) (arg4 : Memref sig .tc .vmem S3584x512 .i8) (harg4 : arg4.IsWhole) (arg5 : Memref sig .tc .vmem S1x512 .f32) (harg5 : arg5.IsWhole) (arg6 : Memref sig .tc .vmem S3584x512 .i8) (harg6 : arg6.IsWhole) (arg7 : Memref sig .tc .vmem S1x512 .f32) (harg7 : arg7.IsWhole) (arg8 : Memref sig .tc .vmem S512x512 .bf16) (harg8 : arg8.IsWhole) (arg9 : Memref sig .tc .vmem S7168x512 .bf16) (harg9 : arg9.IsWhole) (arg10 : Memref sig .tc .vmem S7168x512 .bf16) (harg10 : arg10.IsWhole) (hc0 : ¬cond1_0 i)
    (x0 : Vec F S512x7168 .i8) (x1 : Vec F S512x1 .f32) (x2 : Vec F S3584x512 .i8) (x3 : Vec F S1x512 .f32) (x4 : Vec F S3584x512 .i8) (x5 : Vec F S1x512 .f32) (b0 b1 : Vec F S7168x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare b0 ∗ owns (c : Thread nD τ) arg10 fullShare b1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x3 x5 b0 b1) ∗ owns (c : Thread nD τ) arg9 fullShare b0 ∗ owns (c : Thread nD τ) arg10 fullShare b1) -∗ K ⟨⟩))
      ⊢ wp frame (wpE (defs₀ (F := F)) Variants.none c none) E (cc1_swiglu_matmul i arg2 harg2 arg3 harg3 arg4 harg4 arg5 harg5 arg6 harg6 arg7 harg7 arg8 harg8 arg9 harg9 arg10 harg10) K := by
  simp only [cc1_swiglu_matmul_eq_skeleton]; unfold cc1_swiglu_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  subst hf0; subst hf1; subst hf2; subst hf3; subst hf4; subst hf5; subst hfs0; subst hfs1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_h _)
  isplitl [HS0]
  · iexists fs0; isplitr; · ipureintro; rfl
    iexact HS0
  iexists fs1; isplitr; · ipureintro; rfl
  iexact HS1

/-! ## The region's invariant -/

/-- What the region owns beside the windows before point `n`: before the first point the scratch at anything; afterwards
    the scratches at the unpacked weight blocks of the point before. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (sc1_0 (iblk1 V c 2 ⟨n, hn⟩)) ∗ owns (c : Thread nD τ) scM1_1 fullShare (sc1_1 (iblk1 V c 4 ⟨n, hn⟩))) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (sc1_0 (iblk1 V c 2 ⟨n, hn⟩)) ∗ owns (c : Thread nD τ) scM1_1 fullShare (sc1_1 (iblk1 V c 4 ⟨n, hn⟩))) ∗ (∃ r, prngReg c r)) := rfl
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (sc1_0 (iblk1 V c 2 ⟨n - 1, by omega⟩)) ∗ owns (c : Thread nD τ) scM1_1 fullShare (sc1_1 (iblk1 V c 4 ⟨n - 1, by omega⟩))) ∗ (∃ r, prngReg c r)) := by
  cases n with
  | zero => exact absurd rfl hz
  | succ n => rfl
/-- Whatever the point, the invariant gives the class's back: the scratches' contents are forgotten. -/
theorem Phi1_out (c : Dev nD) (n : ℕ) (h : n ≤ cfg1.N) : Phi1 V c n h ⊢ Pipeline.ΦA spec1 c := by
  by_cases hz : n = 0
  · rw [Phi1_zero V c n h hz]
  · rw [Phi1_pos V c n h hz, PhiA1_eq]
    iintro ⟨⟨HR0, HR1, HR2, HR3, HR4, HR5, HS0, HS1⟩, Hg⟩
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]
      · iexists _; iexact HS0
      iexists _; iexact HS1
    iexact Hg

/-- What the output's buffer holds after the body at point `t`: the body's result from the point's own blocks. -/
def outAt1 (c : Dev nD) (t : Fin cfg1.N) : Vec F S512x512 .bf16 :=
  out1_6 (iblk1 V c 0 t) (iblk1 V c 1 t) (iblk1 V c 3 t) (iblk1 V c 5 t) (sc1_0 (iblk1 V c 2 t)) (sc1_1 (iblk1 V c 4 t))

/-! ## The pipeline's proof data -/

/-- The proof data of pipeline 1 on core `c`: the arrays as the region finds them (`V`); after the body at
    point `t` each input's buffer at its block and the outputs' at `outAt1`; the invariant the class's
   ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := Phi1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-! ## The weight blocks along a column -/

/-- The weight windows do not move inside a column block: their block at a point that is no multiple of 15 is the one
    of the point before. -/
theorem iblk1_2_keep (c : Dev nD) (t : Fin cfg1.N) (h : ¬t.val % 15 = 0) (h' : t.val - 1 < cfg1.N) :
    iblk1 V c 2 ⟨t.val - 1, h'⟩ = iblk1 V c 2 t := by
  have hf : (cfg1.win 2).fetch t = false := by
    rw [← Bool.not_eq_true]; exact fun e => h ((fetch1_2 t).mp e)
  have hix := ((cfg1.win 2).index_eq_of_fetch rfl t hf).2
  have e := (dat1 V c).fetched_congr 2 hix.symm rfl (iblk1 V c 2 t)
  have e1 : ∀ (t' : Fin cfg1.N) d, (dat1 V c).fetched 2 t' d = iblk1 V c 2 t' := fun t' d => by
    unfold Dat.fetched Dat.blockOf iblk1; rw [A_eq1]; try rfl
  exact (e1 _ _).symm.trans (e.trans (e1 _ _))
theorem iblk1_4_keep (c : Dev nD) (t : Fin cfg1.N) (h : ¬t.val % 15 = 0) (h' : t.val - 1 < cfg1.N) :
    iblk1 V c 4 ⟨t.val - 1, h'⟩ = iblk1 V c 4 t := by
  have hf : (cfg1.win 4).fetch t = false := by
    rw [← Bool.not_eq_true]; exact fun e => h ((fetch1_4 t).mp e)
  have hix := ((cfg1.win 4).index_eq_of_fetch rfl t hf).2
  have e := (dat1 V c).fetched_congr 4 hix.symm rfl (iblk1 V c 4 t)
  have e1 : ∀ (t' : Fin cfg1.N) d, (dat1 V c).fetched 4 t' d = iblk1 V c 4 t' := fun t' d => by
    unfold Dat.fetched Dat.blockOf iblk1; rw [A_eq1]; try rfl
  exact (e1 _ _).symm.trans (e.trans (e1 _ _))

/-- The invariant at a point's start, at the point's number. -/
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

/-- The region is entered with the class's invariant and left with it. -/
theorem Phi1_first (c : Dev nD) : (dat1 V c).Φ 0 = Pipeline.ΦA spec1 c := by
  dsimp only [dat1]; exact Phi1_zero V c _ _ rfl
theorem Phi1_last (c : Dev nD) : (dat1 V c).Φ (Fin.last cfg1.N) ⊢ Pipeline.ΦA spec1 c := by
  dsimp only [dat1]; exact Phi1_out V c _ _

set_option maxHeartbeats 1600000 in
/-- The body at any point: the inputs' buffers hold their blocks. At a multiple of 15 the weights are unpacked, whatever
    the scratches held; at any other point the scratches hold the unpacked blocks of the point before, which are the
    point's own. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.succ = Phi1 V c (t.val + 1) t.isLt from rfl, Phi1_succ, Phi1_castSucc]
  unfold outAt1
  by_cases h0 : t.val % 15 = 0
  · refine (sep_mono (Phi1_out V c _ _) .rfl).trans ?_
    rw [PhiA1_eq]
    iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HR0 HR1 HR2 HR3 HR4 HR5 HS0 HS1 Hg]
    · isplitl [HR0 HR1 HR2 HR3 HR4 HR5 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h0 (by rw [e])
    rw [Phi1_pos V c _ _ hz, iblk1_2_keep V c t h0, iblk1_4_keep V c t h0]
    iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HR0 HR1 HR2 HR3 HR4 HR5 HS0 HS1 Hg]
    · isplitl [HR0 HR1 HR2 HR3 HR4 HR5 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.Kernel.Run.lean ====
module

public import proofs.«01_k».proof.Proof.Kernel.Region0
public import proofs.«01_k».proof.Proof.Kernel.Region1
public import Idealize.ShloMosaic.Lib.StableHlo.Run
public import Idealize.ShloMosaic.Lib.Pipeline.Regions

@[expose] public section

-- a rectangle of the kernels' extents is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main, from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of the library's `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of the library's `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_first (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has the argument arrays as launched, the three results at the last boundary's contents
    `W5`, and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v7) = W5 m ρ c (Proc.devRef .tc main_v7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       h c _ (mem_uc main_v5 (by decide)),
       h c _ (mem_uc main_v6 (by decide)),
       h c _ (mem_uc main_v7 (by decide))⟩), funext fun g => hz g (.inr (no_unscoped g.2))⟩)

/-- The frame claim's statement: the run without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run m ρ)

end Cert.Kernel.Hand

end
-- ==== Proof.KernelIdeal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- a rectangle of the kernels' extents is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The offset of a whole access is zero. -/
theorem zeros2 : (![0, 0] : Fin 2 → ℕ) = fun _ => 0 := by decide

abbrev r0_0 : Rect S256x7168 := Rect.unit (s := S256x7168) ![0, 0] S256x7168.size inb_S256x7168_S256x7168_0_0
abbrev r0_1 : Rect S256x1 := Rect.unit (s := S256x1) ![0, 0] S256x1.size inb_S256x1_S256x1_0_0

/-! ## What the body leaves in each output window's buffer -/

/-- Window 1's staging buffer after the body, from the input windows' blocks: its 1 store as pieces, LAST
    FIRST. -/
def out0_1 (x0 : Vec F S256x7168 .bf16) : Vec F S256x7168 .i8 :=
  View.canon [⟨r0_0, k0_pay3 (View.ld x0 r0_0)⟩]

/-- Its stores tile the buffer (checked by evaluation), so they cover it. -/
theorem cover0_1 (p0 : Vec F S256x7168 .i8) (y : S256x7168.Idx) :
    ∃ pc ∈ ([⟨r0_0, p0⟩] : List (View.Piece (Elt F) S256x7168 .i8)), y ∈ pc.1.set :=
  View.cover_of_tiled [⟨r0_0, p0⟩] S256x7168.size (by rfl) y

/-- Window 2's staging buffer after the body, from the input windows' blocks: its 1 store as pieces, LAST
    FIRST. -/
def out0_2 (x0 : Vec F S256x7168 .bf16) : Vec F S256x1 .f32 :=
  View.canon [⟨r0_1, k0_pay2 (View.ld x0 r0_0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-- So they are the payloads of the whole block: each buffer is read and stored whole. -/
theorem out0_1_eq (x0 : Vec F S256x7168 .bf16) : out0_1 x0 = k0_pay3 x0 := by
  unfold out0_1
  rw [View.canon_unit_zero (S := S256x7168) zeros2, View.ld_unit_zero (S := S256x7168) zeros2]
theorem out0_2_eq (x0 : Vec F S256x7168 .bf16) : out0_2 x0 = k0_pay2 x0 := by
  unfold out0_2
  rw [View.canon_unit_zero (S := S256x1) zeros2, View.ld_unit_zero (S := S256x7168) zeros2]

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S256x7168 .bf16) (harg1 : arg1.IsWhole) (arg2 : Memref sig .tc .vmem S256x7168 .i8) (harg2 : arg2.IsWhole) (arg3 : Memref sig .tc .vmem S256x1 .f32) (harg3 : arg3.IsWhole)
    (x0 : Vec F S256x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: the library's `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- a rectangle of the kernels' extents is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of each core when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): the library's `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): the library's `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): the library's `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): the library's `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): the library's `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): the library's `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers and the scratch -/

/-- Each window's current staging memref at point `t`, spelled as the pipeline passes it (`bodyAt1`), and its wholeness. -/
abbrev ms1_0 (t : Fin cfg1.N) : Memref sig .tc .vmem S512x7168 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3584x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3584x512 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S7168x512 .bf16 := Memref.whole cc1_scratch0
abbrev scM1_1 : Memref sig .tc .vmem S7168x512 .bf16 := Memref.whole cc1_scratch1

/-- The frame kit's invariant with the scratch operands as memrefs owned at some contents (`Gen.scopedRest1_eq`,
    the library's `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-! ## When the weights are unpacked -/

/-- The condition of the body's branch: the second grid coordinate, the row block, is zero. -/
abbrev cond1_0 (i : grid1.Coords) : Prop := (Scalar.cmpi .ne (Scalar.extui (Scalar.cmpi .eq (BitVec.ofNat 32 (i 1).val) 0#32)) 0#32) = 1#1
/-- It holds at the points that are multiples of 15: the first row block of each column block. -/
theorem hcond1_0 : ∀ t : Fin cfg1.N, cond1_0 (grid1.coords t) ↔ t.val % 15 = 0 :=
  (fun t => by
    have ht : t.val < 540 := Nat.lt_of_lt_of_eq t.isLt N_1
    have e0 : (grid1.coords t 0).val = t.val / 15 % 36 := Pipeline.Grid.coords_val t 0 (by decide) rfl
    have e1 : (grid1.coords t 1).val = t.val / 1 % 15 := Pipeline.Grid.coords_val t 1 (by decide) rfl
    simp only [cond1_0, e0, e1]
    word_cmp
   : ∀ t : Fin grid1.N, cond1_0 (grid1.coords t) ↔ t.val % 15 = 0)

/-! ## What the body leaves in the output's buffer and in the scratch -/

abbrev q_x : Rect S512x7168 := Rect.unit (s := S512x7168) ![0, 0] S512x7168.size inb_S512x7168_S512x7168_0_0
abbrev q_t : Rect S512x1 := Rect.unit (s := S512x1) ![0, 0] S512x1.size inb_S512x1_S512x1_0_0
abbrev q_w : Rect S3584x512 := Rect.unit (s := S3584x512) ![0, 0] S3584x512.size inb_S3584x512_S3584x512_0_0
abbrev q_c : Rect S1x512 := Rect.unit (s := S1x512) ![0, 0] S1x512.size inb_S1x512_S1x512_0_0
abbrev q_b : Rect S7168x512 := Rect.unit (s := S7168x512) ![0, 0] S7168x512.size inb_S7168x512_S7168x512_0_0
abbrev q_h : Rect S512x512 := Rect.unit (s := S512x512) ![0, 0] S512x512.size inb_S512x512_S512x512_0_0

/-- The first scratch after an unpacking point: the gate weights of the column block. -/
def sc1_0 (x2 : Vec F S3584x512 .i8) : Vec F S7168x512 .bf16 := View.canon [⟨q_b, k1_pay1 (View.ld x2 q_w)⟩]
/-- The second scratch after an unpacking point: the up weights of the column block. -/
def sc1_1 (x4 : Vec F S3584x512 .i8) : Vec F S7168x512 .bf16 := View.canon [⟨q_b, k1_pay2 (View.ld x4 q_w)⟩]
/-- The output's buffer after the body, from the input blocks and the two scratches. -/
def out1_6 (x0 : Vec F S512x7168 .i8) (x1 : Vec F S512x1 .f32) (x3 : Vec F S1x512 .f32) (x5 : Vec F S1x512 .f32)
    (b0 b1 : Vec F S7168x512 .bf16) : Vec F S512x512 .bf16 :=
  View.canon [⟨q_h, k1_pay3 (View.ld x0 q_x) (View.ld x1 q_t) (View.ld b0 q_b) (View.ld x3 q_c) (View.ld b1 q_b) (View.ld x5 q_c)⟩]

/-- One store of the whole buffer covers it. -/
theorem cover_b (p0 : Vec F S7168x512 .bf16) (y : S7168x512.Idx) :
    ∃ pc ∈ ([⟨q_b, p0⟩] : List (View.Piece (Elt F) S7168x512 .bf16)), y ∈ pc.1.set :=
  View.cover_of_tiled [⟨q_b, p0⟩] S7168x512.size (by rfl) y
theorem cover_h (p0 : Vec F S512x512 .bf16) (y : S512x512.Idx) :
    ∃ pc ∈ ([⟨q_h, p0⟩] : List (View.Piece (Elt F) S512x512 .bf16)), y ∈ pc.1.set :=
  View.cover_of_tiled [⟨q_h, p0⟩] S512x512.size (by rfl) y

/-- The offset of a whole access is zero. -/
theorem zeros2' : (![0, 0] : Fin 2 → ℕ) = fun _ => 0 := by decide
/-- Every buffer is read and stored whole, so these are the payloads of the whole blocks. -/
theorem sc1_0_eq (x2 : Vec F S3584x512 .i8) : sc1_0 x2 = k1_pay1 x2 := by
  unfold sc1_0
  rw [View.canon_unit_zero (S := S7168x512) zeros2', View.ld_unit_zero (S := S3584x512) zeros2']
theorem sc1_1_eq (x4 : Vec F S3584x512 .i8) : sc1_1 x4 = k1_pay2 x4 := by
  unfold sc1_1
  rw [View.canon_unit_zero (S := S7168x512) zeros2', View.ld_unit_zero (S := S3584x512) zeros2']
theorem out1_6_eq (x0 : Vec F S512x7168 .i8) (x1 : Vec F S512x1 .f32) (x3 : Vec F S1x512 .f32) (x5 : Vec F S1x512 .f32)
    (b0 b1 : Vec F S7168x512 .bf16) : out1_6 x0 x1 x3 x5 b0 b1 = k1_pay3 x0 x1 b0 x3 b1 x5 := by
  unfold out1_6
  rw [View.canon_unit_zero (S := S512x512) zeros2', View.ld_unit_zero (S := S512x7168) zeros2', View.ld_unit_zero (S := S512x1) zeros2',
    View.ld_unit_zero (S := S7168x512) zeros2', View.ld_unit_zero (S := S1x512) zeros2', View.ld_unit_zero (S := S7168x512) zeros2',
    View.ld_unit_zero (S := S1x512) zeros2']

/-! ## The body's triple, in each case of the branch -/

set_option maxHeartbeats 1000000 in
/-- At an unpacking point the body, on whole buffers with the inputs' contents given, fills both scratches from the
    weight blocks and the output from them. -/
theorem sound_kernel1_A (c : Dev nD) (E : Set ℕ) (i : grid1.Coords) (arg2 : Memref sig .tc .vmem S512x7168 .i8) (harg2 : arg2.IsWhole) (arg3 : Memref sig .tc .vmem S512x1 .f32) (harg3 : arg3.IsWhole) (arg4 : Memref sig .tc .vmem S3584x512 .i8) (harg4 : arg4.IsWhole) (arg5 : Memref sig .tc .vmem S1x512 .f32) (harg5 : arg5.IsWhole) (arg6 : Memref sig .tc .vmem S3584x512 .i8) (harg6 : arg6.IsWhole) (arg7 : Memref sig .tc .vmem S1x512 .f32) (harg7 : arg7.IsWhole) (arg8 : Memref sig .tc .vmem S512x512 .bf16) (harg8 : arg8.IsWhole) (arg9 : Memref sig .tc .vmem S7168x512 .bf16) (harg9 : arg9.IsWhole) (arg10 : Memref sig .tc .vmem S7168x512 .bf16) (harg10 : arg10.IsWhole) (hc0 : cond1_0 i)
    (x0 : Vec F S512x7168 .i8) (x1 : Vec F S512x1 .f32) (x2 : Vec F S3584x512 .i8) (x3 : Vec F S1x512 .f32) (x4 : Vec F S3584x512 .i8) (x5 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x3 x5 (sc1_0 x2) (sc1_1 x4)) ∗ owns (c : Thread nD τ) arg9 fullShare (sc1_0 x2) ∗ owns (c : Thread nD τ) arg10 fullShare (sc1_1 x4)) -∗ K ⟨⟩))
      ⊢ wp frame (wpE (defs₀ (F := F)) Variants.none c none) E (cc1_swiglu_matmul i arg2 harg2 arg3 harg3 arg4 harg4 arg5 harg5 arg6 harg6 arg7 harg7 arg8 harg8 arg9 harg9 arg10 harg10) K := by
  simp only [cc1_swiglu_matmul_eq_skeleton]; unfold cc1_swiglu_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  subst hf0; subst hf1; subst hf2; subst hf3; subst hf4; subst hf5
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover_h _)).trans ?_
    unfold sound_kernel1_A.sl.v8 sound_kernel1_A.sl.v16 sound_kernel1_A.sl.HS0_1 sound_kernel1_A.sl.HS1_1
    rw [View.readCov_eq_canon_ld _ _ _ (cover_b _), View.readCov_eq_canon_ld _ _ _ (cover_b _)]
    rfl
  isplitl [HS0]
  · iexists _; isplitr
    swap; · iexact HS0
    ipureintro
    exact View.read_writes_eq_canon _ _ _ (cover_b _)
  iexists _; isplitr
  swap; · iexact HS1
  ipureintro
  exact View.read_writes_eq_canon _ _ _ (cover_b _)

set_option maxHeartbeats 1000000 in
/-- At any other point the body reads the scratches as they are, leaves them so, and fills the output. -/
theorem sound_kernel1_B (c : Dev nD) (E : Set ℕ) (i : grid1.Coords) (arg2 : Memref sig .tc .vmem S512x7168 .i8) (harg2 : arg2.IsWhole) (arg3 : Memref sig .tc .vmem S512x1 .f32) (harg3 : arg3.IsWhole) (arg4 : Memref sig .tc .vmem S3584x512 .i8) (harg4 : arg4.IsWhole) (arg5 : Memref sig .tc .vmem S1x512 .f32) (harg5 : arg5.IsWhole) (arg6 : Memref sig .tc .vmem S3584x512 .i8) (harg6 : arg6.IsWhole) (arg7 : Memref sig .tc .vmem S1x512 .f32) (harg7 : arg7.IsWhole) (arg8 : Memref sig .tc .vmem S512x512 .bf16) (harg8 : arg8.IsWhole) (arg9 : Memref sig .tc .vmem S7168x512 .bf16) (harg9 : arg9.IsWhole) (arg10 : Memref sig .tc .vmem S7168x512 .bf16) (harg10 : arg10.IsWhole) (hc0 : ¬cond1_0 i)
    (x0 : Vec F S512x7168 .i8) (x1 : Vec F S512x1 .f32) (x2 : Vec F S3584x512 .i8) (x3 : Vec F S1x512 .f32) (x4 : Vec F S3584x512 .i8) (x5 : Vec F S1x512 .f32) (b0 b1 : Vec F S7168x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare b0 ∗ owns (c : Thread nD τ) arg10 fullShare b1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 x0 x1 x3 x5 b0 b1) ∗ owns (c : Thread nD τ) arg9 fullShare b0 ∗ owns (c : Thread nD τ) arg10 fullShare b1) -∗ K ⟨⟩))
      ⊢ wp frame (wpE (defs₀ (F := F)) Variants.none c none) E (cc1_swiglu_matmul i arg2 harg2 arg3 harg3 arg4 harg4 arg5 harg5 arg6 harg6 arg7 harg7 arg8 harg8 arg9 harg9 arg10 harg10) K := by
  simp only [cc1_swiglu_matmul_eq_skeleton]; unfold cc1_swiglu_matmul_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  subst hf0; subst hf1; subst hf2; subst hf3; subst hf4; subst hf5; subst hfs0; subst hfs1
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_h _)
  isplitl [HS0]
  · iexists fs0; isplitr; · ipureintro; rfl
    iexact HS0
  iexists fs1; isplitr; · ipureintro; rfl
  iexact HS1

/-! ## The region's invariant -/

/-- What the region owns beside the windows before point `n`: before the first point the scratch at anything; afterwards
    the scratches at the unpacked weight blocks of the point before. -/
def Phi1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (sc1_0 (iblk1 V c 2 ⟨n, hn⟩)) ∗ owns (c : Thread nD τ) scM1_1 fullShare (sc1_1 (iblk1 V c 4 ⟨n, hn⟩))) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (sc1_0 (iblk1 V c 2 ⟨n, hn⟩)) ∗ owns (c : Thread nD τ) scM1_1 fullShare (sc1_1 (iblk1 V c 4 ⟨n, hn⟩))) ∗ (∃ r, prngReg c r)) := rfl
theorem Phi1_pos (c : Dev nD) (n : ℕ) (h : n ≤ cfg1.N) (hz : n ≠ 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (sc1_0 (iblk1 V c 2 ⟨n - 1, by omega⟩)) ∗ owns (c : Thread nD τ) scM1_1 fullShare (sc1_1 (iblk1 V c 4 ⟨n - 1, by omega⟩))) ∗ (∃ r, prngReg c r)) := by
  cases n with
  | zero => exact absurd rfl hz
  | succ n => rfl
/-- Whatever the point, the invariant gives the class's back: the scratches' contents are forgotten. -/
theorem Phi1_out (c : Dev nD) (n : ℕ) (h : n ≤ cfg1.N) : Phi1 V c n h ⊢ Pipeline.ΦA spec1 c := by
  by_cases hz : n = 0
  · rw [Phi1_zero V c n h hz]
  · rw [Phi1_pos V c n h hz, PhiA1_eq]
    iintro ⟨⟨HR0, HR1, HR2, HR3, HR4, HR5, HS0, HS1⟩, Hg⟩
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]
      · iexists _; iexact HS0
      iexists _; iexact HS1
    iexact Hg

/-- What the output's buffer holds after the body at point `t`: the body's result from the point's own blocks. -/
def outAt1 (c : Dev nD) (t : Fin cfg1.N) : Vec F S512x512 .bf16 :=
  out1_6 (iblk1 V c 0 t) (iblk1 V c 1 t) (iblk1 V c 3 t) (iblk1 V c 5 t) (sc1_0 (iblk1 V c 2 t)) (sc1_1 (iblk1 V c 4 t))

/-! ## The pipeline's proof data -/

/-- The proof data of pipeline 1 on core `c`: the arrays as the region finds them (`V`); after the body at
    point `t` each input's buffer at its block and the outputs' at `outAt1`; the invariant the class's
   ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ t := Phi1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-! ## The weight blocks along a column -/

/-- The weight windows do not move inside a column block: their block at a point that is no multiple of 15 is the one
    of the point before. -/
theorem iblk1_2_keep (c : Dev nD) (t : Fin cfg1.N) (h : ¬t.val % 15 = 0) (h' : t.val - 1 < cfg1.N) :
    iblk1 V c 2 ⟨t.val - 1, h'⟩ = iblk1 V c 2 t := by
  have hf : (cfg1.win 2).fetch t = false := by
    rw [← Bool.not_eq_true]; exact fun e => h ((fetch1_2 t).mp e)
  have hix := ((cfg1.win 2).index_eq_of_fetch rfl t hf).2
  have e := (dat1 V c).fetched_congr 2 hix.symm rfl (iblk1 V c 2 t)
  have e1 : ∀ (t' : Fin cfg1.N) d, (dat1 V c).fetched 2 t' d = iblk1 V c 2 t' := fun t' d => by
    unfold Dat.fetched Dat.blockOf iblk1; rw [A_eq1]; try rfl
  exact (e1 _ _).symm.trans (e.trans (e1 _ _))
theorem iblk1_4_keep (c : Dev nD) (t : Fin cfg1.N) (h : ¬t.val % 15 = 0) (h' : t.val - 1 < cfg1.N) :
    iblk1 V c 4 ⟨t.val - 1, h'⟩ = iblk1 V c 4 t := by
  have hf : (cfg1.win 4).fetch t = false := by
    rw [← Bool.not_eq_true]; exact fun e => h ((fetch1_4 t).mp e)
  have hix := ((cfg1.win 4).index_eq_of_fetch rfl t hf).2
  have e := (dat1 V c).fetched_congr 4 hix.symm rfl (iblk1 V c 4 t)
  have e1 : ∀ (t' : Fin cfg1.N) d, (dat1 V c).fetched 4 t' d = iblk1 V c 4 t' := fun t' d => by
    unfold Dat.fetched Dat.blockOf iblk1; rw [A_eq1]; try rfl
  exact (e1 _ _).symm.trans (e.trans (e1 _ _))

/-- The invariant at a point's start, at the point's number. -/
theorem Phi1_castSucc (c : Dev nD) (t : Fin cfg1.N) :
    (dat1 V c).Φ t.castSucc = Phi1 V c t.val (Nat.le_of_lt t.isLt) := by
  dsimp only [dat1]; exact Pipeline.Dat.Φ_castSucc (Phi1 V c) t

/-- The region is entered with the class's invariant and left with it. -/
theorem Phi1_first (c : Dev nD) : (dat1 V c).Φ 0 = Pipeline.ΦA spec1 c := by
  dsimp only [dat1]; exact Phi1_zero V c _ _ rfl
theorem Phi1_last (c : Dev nD) : (dat1 V c).Φ (Fin.last cfg1.N) ⊢ Pipeline.ΦA spec1 c := by
  dsimp only [dat1]; exact Phi1_out V c _ _

set_option maxHeartbeats 1600000 in
/-- The body at any point: the inputs' buffers hold their blocks. At a multiple of 15 the weights are unpacked, whatever
    the scratches held; at any other point the scratches hold the unpacked blocks of the point before, which are the
    point's own. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_6]
  rw [show (dat1 V c).Φ t.succ = Phi1 V c (t.val + 1) t.isLt from rfl, Phi1_succ, Phi1_castSucc]
  unfold outAt1
  by_cases h0 : t.val % 15 = 0
  · refine (sep_mono (Phi1_out V c _ _) .rfl).trans ?_
    rw [PhiA1_eq]
    iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HR0 HR1 HR2 HR3 HR4 HR5 HS0 HS1 Hg]
    · isplitl [HR0 HR1 HR2 HR3 HR4 HR5 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := fun e => h0 (by rw [e])
    rw [Phi1_pos V c _ _ hz, iblk1_2_keep V c t h0, iblk1_4_keep V c t h0]
    iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HR0 HR1 HR2 HR3 HR4 HR5 HS0 HS1 Hg]
    · isplitl [HR0 HR1 HR2 HR3 HR4 HR5 HS0 HS1]
      · isplitl [HR0]; · iexact HR0
        isplitl [HR1]; · iexact HR1
        isplitl [HR2]; · iexact HR2
        isplitl [HR3]; · iexact HR3
        isplitl [HR4]; · iexact HR4
        isplitl [HR5]; · iexact HR5
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Run.lean ====
module

public import proofs.«01_k».proof.Proof.KernelIdeal.Region0
public import proofs.«01_k».proof.Proof.KernelIdeal.Region1
public import Idealize.ShloMosaic.Lib.StableHlo.Run
public import Idealize.ShloMosaic.Lib.Pipeline.Regions

@[expose] public section

-- a rectangle of the kernels' extents is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main, from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of the library's `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of the library's `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_first (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has the argument arrays as launched, the three results at the last boundary's contents
    `W5`, and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v7) = W5 m ρ c (Proc.devRef .tc main_v7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       h c _ (mem_uc main_v5 (by decide)),
       h c _ (mem_uc main_v6 (by decide)),
       h c _ (mem_uc main_v7 (by decide))⟩), funext fun g => hz g (.inr (no_unscoped g.2))⟩)

/-- The frame claim's statement: the run without the results. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (run m ρ)

end Cert.KernelIdeal.Hand

end
-- ==== Proof.Rows.lean ====
module

public import Idealize.ShloMosaic.PureOps.Ideal
public import Idealize.ShloMosaic.PureOps.Ideal.Laws
public import Idealize.ShloMosaic.Lib.ValueIdx
public import Idealize.ShloMosaic.Lib.IdealHost

/-!
# The mathematics both programs compute

Over the extended reals: the scale and the int8 codes of one row of `x`, the two 4-bit weights held in a byte, and the
gated product of two projections. The kernel and the reference are each read into these functions, element by element.
-/

@[expose] public section

noncomputable section

open scoped BigOperators

namespace Cert.Rows

open Idealize.ShloMosaic Idealize.ShloMosaic.ValueIdx

/-! ## The definitions -/

/-- The largest magnitude of a row. -/
def rowMax (f : Fin 7168 → EReal) : EReal :=
  Finset.univ.sup fun k => FloatOps.absf (F := Ideal) (φ := .f32) (f k)

/-- The scale of a row: its largest magnitude over 127, or 1 for a row of zeros. -/
def rowScale (f : Fin 7168 → EReal) : EReal :=
  Scalar.select (FloatOps.cmpf (F := Ideal) (φ := .f32) .oeq (rowMax f) (Ideal.ofBits .f32 0x00000000#32))
    (Ideal.ofBits .f32 0x3F800000#32) (Ideal.div (rowMax f) (Ideal.ofBits .f32 0x42FE0000#32))

/-- An element of a row over the row's scale, rounded to the nearest integer (ties to even) and clipped to
    [-127, 127], as an extended real. -/
def clipped (f : Fin 7168 → EReal) (k : Fin 7168) : EReal :=
  min (((127#32).toInt : ℝ) : EReal)
    (max (((4294967169#32).toInt : ℝ) : EReal) (Ideal.liftRound Ideal.roundHalfEven (Ideal.div (f k) (rowScale f))))

/-- … and as the int8 code that is stored. -/
def code (f : Fin 7168 → EReal) (k : Fin 7168) : BitVec 8 := Ideal.fptosi 8 (clipped f k)

/-- The number a code stands for. -/
def codeVal (c : BitVec 8) : EReal := ((c.toInt : ℝ) : EReal)

/-- The weight a nibble `n` stands for: `n - 8`. -/
def weight (n : ℕ) : EReal := (((n : ℝ) - 8 : ℝ) : EReal)

/-- The weight in a byte's low nibble (an even row of the weight matrix). -/
def lo (b : BitVec 8) : EReal := weight (b.toNat % 16)

/-- The weight in a byte's high nibble (an odd row of the weight matrix). -/
def hi (b : BitVec 8) : EReal := weight (b.toNat / 16)

/-- One element of a projection: the codes of a row against a column of packed weights, even rows in the low nibbles and
    odd rows in the high ones, times the row's scale and the column's. -/
def proj (c : Fin 7168 → BitVec 8) (s : EReal) (w : Fin 3584 → BitVec 8) (ws : EReal) : EReal :=
  (∑ k : Fin 3584, codeVal (c ⟨2 * k.val, by omega⟩) * lo (w k)
    + ∑ k : Fin 3584, codeVal (c ⟨2 * k.val + 1, by omega⟩) * hi (w k)) * s * ws

/-- The gated product: `silu g * u`. -/
def swiglu (g u : EReal) : EReal := g * Ideal.logistic g * u

/-! ## Maxima -/

/-- The fold of `max` from -∞ over the indices that a reduction drops to `j` is the supremum over any enumeration of
    them. -/
theorem fold_max_eq_sup {s t : Shape} {n : ℕ} (drop : s.Idx → t.Idx) (j : t.Idx) (g : Fin n → s.Idx)
    (hg : ∀ k, drop (g k) = j) (hs : ∀ i, drop i = j → ∃ k, g k = i) (x : s.Idx → EReal) :
    (Finset.univ.filter fun i => drop i = j).fold max ⊥ x = Finset.univ.sup fun k => x (g k) := by
  change (Finset.univ.filter fun i => drop i = j).sup x = _
  apply le_antisymm
  · refine Finset.sup_le fun i hi => ?_
    obtain ⟨k, rfl⟩ := hs i (Finset.mem_filter.1 hi).2
    exact Finset.le_sup (f := fun k => x (g k)) (Finset.mem_univ k)
  · exact Finset.sup_le fun k _ => Finset.le_sup (f := x) (Finset.mem_filter.2 ⟨Finset.mem_univ _, hg k⟩)

/-- The word a float maximum starts from is -∞. -/
theorem ofBits_neg_inf : Ideal.ofBits .f32 0xFF800000#32 = ⊥ := by
  simp [Ideal.ofBits, Ideal.ieee, -EReal.coe_mul]

/-! ## Codes -/

/-- Between the bounds an integer is not clamped. -/
theorem toInt_mem {x : EReal} (h₁ : ((-127 : ℝ) : EReal) ≤ x) (h₂ : x ≤ ((127 : ℝ) : EReal)) {lo hi : ℤ}
    (hlo : lo ≤ -127) (hhi : 127 ≤ hi) :
    Ideal.toIntClamped lo hi x = Ideal.toIntClamped (-127) 127 x := by
  induction x with
  | bot => simp at h₁
  | top => simp at h₂
  | coe r =>
    have a₁ : (-127 : ℝ) ≤ r := EReal.coe_le_coe_iff.1 h₁
    have a₂ : r ≤ 127 := EReal.coe_le_coe_iff.1 h₂
    have key : (-127 : ℤ) ≤ (if 0 ≤ r then ⌊r⌋ else ⌈r⌉) ∧ (if 0 ≤ r then ⌊r⌋ else ⌈r⌉) ≤ 127 := by
      split
      · next h0 =>
        exact ⟨Int.le_floor.2 (by push_cast; linarith), Int.floor_le_iff.2 (by push_cast; linarith)⟩
      · next h0 =>
        exact ⟨Int.le_ceil_iff.2 (by push_cast; linarith), Int.ceil_le.2 (by push_cast; linarith)⟩
    show max lo (min hi (if 0 ≤ r then ⌊r⌋ else ⌈r⌉)) = max (-127) (min 127 (if 0 ≤ r then ⌊r⌋ else ⌈r⌉))
    omega

/-- A clipped value is between -127 and 127. -/
theorem clipped_mem (f : Fin 7168 → EReal) (k : Fin 7168) :
    ((-127 : ℝ) : EReal) ≤ clipped f k ∧ clipped f k ≤ ((127 : ℝ) : EReal) := by
  unfold clipped
  have e₁ : ((127#32).toInt : ℝ) = 127 := by norm_num [BitVec.toInt]
  have e₂ : ((4294967169#32).toInt : ℝ) = -127 := by norm_num [BitVec.toInt]
  rw [e₁, e₂]
  refine ⟨le_min (EReal.coe_le_coe_iff.2 (by norm_num)) (le_max_left _ _), min_le_left _ _⟩

/-- A clipped value converted to a 32-bit word and cut to its low byte is the code: neither conversion saturates. -/
theorem code_eq_setWidth (f : Fin 7168 → EReal) (k : Fin 7168) :
    (Ideal.fptosi 32 (clipped f k)).setWidth 8 = code f k := by
  obtain ⟨h₁, h₂⟩ := clipped_mem f k
  unfold code Ideal.fptosi
  rw [toInt_mem h₁ h₂ (by norm_num) (by norm_num), toInt_mem (lo := -(2 ^ (8 - 1) : ℕ)) h₁ h₂ (by norm_num) (by norm_num)]
  apply BitVec.eq_of_toNat_eq
  simp only [BitVec.toNat_setWidth, BitVec.toNat_ofInt]
  omega

/-! ## Weights -/

/-- The bf16 pattern `0x4300 + n`, `n` a nibble, is `128 + n`; so `n - 8` is what is left after subtracting 136. -/
theorem ofBits_nibble (n : Fin 16) :
    Ideal.ofBits .bf16 (BitVec.ofNat 16 (0x4300 + n.val)) - Ideal.ofBits .bf16 0x4308#16 = weight n.val := by
  have h136 : Ideal.ofBits .bf16 0x4308#16 = ((136 : ℝ) : EReal) := by
    simp [Ideal.ofBits, Ideal.ieee, -EReal.coe_mul]
  have hn : Ideal.ofBits .bf16 (BitVec.ofNat 16 (0x4300 + n.val)) = ((128 + n.val : ℝ) : EReal) := by
    fin_cases n <;> simp [Ideal.ofBits, Ideal.ieee, -EReal.coe_mul, -EReal.coe_add] <;> norm_num [-EReal.coe_add]
  rw [hn, h136, ← EReal.coe_sub]
  unfold weight
  congr 1
  ring

/-- A nibble converted to bf16 less 8 is its weight. -/
theorem sitofp_sub_eight (n : BitVec 32) (h : n.toNat < 16) :
    ((n.toInt : ℝ) : EReal) - Ideal.ofBits .bf16 0x4100#16 = weight n.toNat := by
  have h8 : Ideal.ofBits .bf16 0x4100#16 = ((8 : ℝ) : EReal) := by
    simp [Ideal.ofBits, Ideal.ieee, -EReal.coe_mul]; norm_num
  have hn : n.toInt = (n.toNat : ℤ) := by rw [BitVec.toInt_eq_toNat_of_lt (by omega)]
  rw [hn, h8, ← EReal.coe_sub]
  unfold weight
  simp

/-- The word the kernel builds from a byte `b`: its low half is `0x4300 + (b mod 16)`. -/
theorem word_low (b : BitVec 8) :
    ((((b.setWidth 32 ||| (b.setWidth 32 <<< 12)) &&& 983055#32) ||| 1124090624#32).extractLsb' 0 16)
      = BitVec.ofNat 16 (0x4300 + b.toNat % 16) := by
  revert b; decide +kernel

/-- … and its high half is `0x4300 + (b / 16)`. -/
theorem word_high (b : BitVec 8) :
    ((((b.setWidth 32 ||| (b.setWidth 32 <<< 12)) &&& 983055#32) ||| 1124090624#32).extractLsb' 16 16)
      = BitVec.ofNat 16 (0x4300 + b.toNat / 16) := by
  revert b; decide +kernel

/-! ## Sums -/

/-- A sum over 7168 rows is the sum over the even ones plus the sum over the odd ones. -/
theorem sum_even_odd (f : Fin 7168 → EReal) :
    ∑ k, f k = ∑ k : Fin 3584, f ⟨2 * k.val, by omega⟩ + ∑ k : Fin 3584, f ⟨2 * k.val + 1, by omega⟩ := by
  rw [← Finset.sum_add_distrib, ← Equiv.sum_comp (finProdFinEquiv (m := 3584) (n := 2)), Fintype.sum_prod_type]
  refine Finset.sum_congr rfl fun k _ => ?_
  rw [Fin.sum_univ_two]
  congr 2 <;> apply Fin.ext <;> simp [finProdFinEquiv] <;> omega

end Cert.Rows

end
-- ==== Proof.KernelIdeal.Payloads.lean ====
module

public import proofs.«01_k».proof.Proof.Rows
public import proofs.«01_k».proof.Proof.Gen.KernelIdeal.Skeleton
public import Idealize.ShloMosaic.Lib.BitcastPair
public import Idealize.ShloMosaic.Lib.MatmulPlain
public import Idealize.ShloMosaic.Lib.Pipeline.Value

/-!
# What the two bodies compute, element by element, over the extended reals

`k0_pay2` and `k0_pay3` are the scale and the codes of each row of a block; `k1_pay1` unpacks a block of packed bytes into
weights; `k1_pay3` is the gated product of a block of codes against two blocks of weights.
-/

@[expose] public section

set_option maxRecDepth 16384

noncomputable section

open scoped BigOperators

namespace Cert.KernelIdeal.Hand

open Cert.KernelIdeal Cert.KernelIdeal.Gen Cert.Rows
open Idealize.ShloMosaic Idealize.ShloMosaic.ValueIdx

/-! ## Operations at an index -/

section Apply
variable {s : Shape} {φ : FTy}

theorem roundeven_apply (a : FVec Ideal s φ) (i : s.Idx) : roundeven a i = Ideal.liftRound Ideal.roundHalfEven (a i) := rfl
theorem logistic_apply (a : FVec Ideal s φ) (i : s.Idx) : logistic a i = Ideal.logistic (a i) := rfl
theorem fptosi_apply (w : ℕ) (a : FVec Ideal s φ) (i : s.Idx) : fptosi w a i = Ideal.fptosi w (a i) := rfl
theorem scalar_sitofp (b : BitVec 32) : (Scalar.sitofp φ b : Ideal φ) = ((b.toInt : ℝ) : EReal) := rfl

end Apply

/-! ## The quantising body -/

/-- The body's lane maximum is the row's largest magnitude. -/
theorem rowMax_block (x : Vec Ideal S256x7168 .bf16) (p : Fin 256) :
    multiReduction .maximumf [1] S256 (absf (k0_pay1 x)) 0xFF800000#32 reduces_S256x7168_S256 (.inl rfl) rfl (ix1 p)
      = rowMax fun k => x (ix2 p k) := by
  have hd : ∀ k : Fin 7168, reduces_S256x7168_S256.drop (ix2 p k) = ix1 p := fun k => by
    funext b; apply Fin.ext
    match b with
    | ⟨0, _⟩ => exact Shape.Reduces.drop_apply_val_of_eq reduces_S256x7168_S256 (ix2 p k) 0 0
  have hs : ∀ i, reduces_S256x7168_S256.drop i = ix1 p → ∃ k : Fin 7168, (ix2 p k : S256x7168.Idx) = i := fun i hi => by
    refine ⟨i 1, ?_⟩
    have h0 : (i 0).val = p.val :=
      (Shape.Reduces.drop_apply_val_of_eq reduces_S256x7168_S256 i 0 0).symm.trans (congrArg Fin.val (congrFun hi 0))
    funext a; apply Fin.ext
    match a with
    | ⟨0, _⟩ => exact h0.symm
    | ⟨1, _⟩ => rfl
  refine (multiReduction_maximumf_eq_fold _ _ reduces_S256x7168_S256 (.inl rfl) rfl (ix1 p)).trans ?_
  refine Eq.trans (congrArg (fun b => Finset.fold _ b _ _) ofBits_neg_inf) ?_
  refine (fold_max_eq_sup reduces_S256x7168_S256.drop (ix1 p) (fun k => ix2 p k) hd hs _).trans ?_
  unfold rowMax
  refine Finset.sup_congr rfl fun k _ => ?_
  show FloatOps.absf (k0_pay1 x (ix2 p k)) = _
  unfold k0_pay1
  dsimp only
  rw [shapeCast_self]
  rfl

/-- The scales of a block: each row's. -/
theorem k0_pay2_apply (x : Vec Ideal S256x7168 .bf16) (p : Fin 256) (q : Fin 1) :
    k0_pay2 x (ix2 p q) = rowScale fun k => x (ix2 p k) := by
  have h : shapeCast S256x1 (multiReduction .maximumf [1] S256 (absf (k0_pay1 x)) 0xFF800000#32 reduces_S256x7168_S256 (.inl rfl) rfl)
      shapeCasts_S256_S256x1 (ix2 p q) = rowMax fun k => x (ix2 p k) := by
    have hq : q.val = 0 := by omega
    refine (shapeCast_apply _ _ (ix2 p q) (ix1 p) ?_).trans (rowMax_block x p)
    rw [Shape.rowMajor_val_one, Shape.rowMajor_val_two]
    show p.val = p.val * 1 + q.val
    omega
  unfold k0_pay2
  dsimp only
  rw [select_apply, cmpf_apply, divf_apply, h]
  rfl

/-- The codes of a block: each row's. -/
theorem k0_pay3_apply (x : Vec Ideal S256x7168 .bf16) (p : Fin 256) (k : Fin 7168) :
    k0_pay3 x (ix2 p k) = code (fun k => x (ix2 p k)) k := by
  have h : broadcastTo S256x7168 (k0_pay2 x) broadcasts_S256x1_S256x7168 (ix2 p k) = rowScale fun k => x (ix2 p k) := by
    refine (broadcastTo_apply _ _ (ix2 p k) (ix2 p (0 : Fin 1)) (fun a => ?_)).trans (k0_pay2_apply x p 0)
    match a with
    | ⟨0, _⟩ => rfl
    | ⟨1, _⟩ => rfl
  have h1 : k0_pay1 x = x := by
    unfold k0_pay1; dsimp only; rw [shapeCast_self]; rfl
  unfold k0_pay3
  rw [fptosi_apply, minimumf_apply, maximumf_apply, roundeven_apply, divf_apply, broadcast_apply, broadcast_apply, h, h1,
    scalar_sitofp, scalar_sitofp]
  unfold code clipped
  rfl

/-! ## Unpacking -/

/-- The nibble of byte `b` that row `k` of the weight matrix is in: the low one for an even row, the high one for an odd. -/
def nib (k : ℕ) (b : BitVec 8) : EReal := if k % 2 = 0 then lo b else hi b

/-- The word the body makes of a byte. -/
theorem packed_word (w : Vec Ideal S3584x512 .i8) (i : S3584x512.Idx) :
    ori (andi (ori (extui 32 w natLt_8_32) (shli (extui 32 w natLt_8_32) (broadcast S3584x512 12#32)))
        (broadcast S3584x512 983055#32)) (broadcast S3584x512 1124090624#32) i
      = ((((w i).setWidth 32 ||| ((w i).setWidth 32 <<< 12)) &&& 983055#32) ||| 1124090624#32) := rfl

/-- The unpacked block at row `k`: the weight in byte row `k / 2`. -/
theorem k1_pay1_apply (w : Vec Ideal S3584x512 .i8) (k : Fin 7168) (n : Fin 512) :
    k1_pay1 w (ix2 k n) = nib k.val (w (ix2 ⟨k.val / 2, by omega⟩ n)) := by
  unfold k1_pay1
  rw [shapeCast_self, subf_apply, broadcast_apply]
  show Ideal.ofBits .bf16 (bitcast S7168x512 16 _ bitcasts_S3584x512_w32_S7168x512_w16 (ix2 k n)) - Ideal.ofBits .bf16 0x4308#16 = _
  have hrow : (S7168x512.row (ix2 k n) : ℕ) = k.val := rfl
  have hi : ∀ hp, bitcasts_S3584x512_w32_S7168x512_w16.srcIdx (ix2 k n) (S7168x512.row (ix2 k n) / 2) hp
      = (ix2 (⟨k.val / 2, by omega⟩ : Fin 3584) n : S3584x512.Idx) := fun hp => by
    funext a; apply Fin.ext
    match a with
    | ⟨0, _⟩ => exact Shape.Bitcasts.srcIdx_row _ _ _ hp 0 rfl
    | ⟨1, _⟩ => exact Shape.Bitcasts.srcIdx_other _ _ _ hp 1 (by decide)
  rw [bitcast_32_16, hi, packed_word, hrow]
  unfold nib
  rcases Nat.mod_two_eq_zero_or_one k.val with h | h
  · rw [h, if_pos rfl]
    exact (congrArg (Ideal.ofBits .bf16 · - _) (word_low _)).trans
      (ofBits_nibble ⟨_, Nat.mod_lt _ (by norm_num)⟩)
  · rw [h, if_neg (by decide)]
    exact (congrArg (Ideal.ofBits .bf16 · - _) (word_high _)).trans
      (ofBits_nibble ⟨_, by have := (w (ix2 (⟨k.val / 2, by omega⟩ : Fin 3584) n)).isLt; omega⟩)

theorem k1_pay2_eq : (k1_pay2 : Vec Ideal S3584x512 .i8 → _) = k1_pay1 := rfl

/-! ## The product -/

/-- One projection in the block: the sum over all 7168 rows, in order. -/
theorem k1_matmul_apply (a : Vec Ideal S512x7168 .i8) (b : FVec Ideal S7168x512 .bf16) (p q : Fin 512) :
    matmul dot_S512x7168_S7168x512_S512x512_1_0_0_1_n_n none (sitofp .bf16 a : FVec Ideal S512x7168 .bf16) b
        (constant S512x512 .f32 0x00000000#32) (ix2 p q)
      = ∑ k : Fin 7168, codeVal (a (ix2 p k)) * b (ix2 k q) := by
  refine (Ideal.matmul_plain_apply none _ _ _ p q).trans ?_
  rw [constant_apply, Ideal.ofBits_zero_f32, zero_add]
  rfl

theorem k1_pay3_apply (a : Vec Ideal S512x7168 .i8) (s : Vec Ideal S512x1 .f32) (b₀ : Vec Ideal S7168x512 .bf16)
    (s₀ : Vec Ideal S1x512 .f32) (b₁ : Vec Ideal S7168x512 .bf16) (s₁ : Vec Ideal S1x512 .f32) (p q : Fin 512) :
    k1_pay3 a s b₀ s₀ b₁ s₁ (ix2 p q)
      = swiglu ((∑ k : Fin 7168, codeVal (a (ix2 p k)) * b₀ (ix2 k q)) * s (ix2 p 0) * s₀ (ix2 0 q))
          ((∑ k : Fin 7168, codeVal (a (ix2 p k)) * b₁ (ix2 k q)) * s (ix2 p 0) * s₁ (ix2 0 q)) := by
  have hs : broadcastTo S512x512 s broadcasts_S512x1_S512x512 (ix2 p q) = s (ix2 p 0) := by
    refine broadcastTo_apply _ _ (ix2 p q) (ix2 p (0 : Fin 1)) (fun a => ?_)
    match a with
    | ⟨0, _⟩ => rfl
    | ⟨1, _⟩ => rfl
  have hw : ∀ s₀ : Vec Ideal S1x512 .f32, broadcastTo S512x512 s₀ broadcasts_S1x512_S512x512 (ix2 p q) = s₀ (ix2 0 q) := fun s₀ => by
    refine broadcastTo_apply _ _ (ix2 p q) (ix2 (0 : Fin 1) q) (fun a => ?_)
    match a with
    | ⟨0, _⟩ => rfl
    | ⟨1, _⟩ => rfl
  unfold k1_pay3
  simp only [shapeCast_self, truncf_apply, mulf_apply, logistic_apply, k1_matmul_apply, hs, hw]
  rfl

end Cert.KernelIdeal.Hand

end
-- ==== Proof.KernelIdeal.Arrays.lean ====
module

public import proofs.«01_k».proof.Proof.KernelIdeal.Payloads
public import proofs.«01_k».proof.Proof.KernelIdeal.Region0
public import proofs.«01_k».proof.Proof.KernelIdeal.Region1

/-!
# What the two pipelines leave in their output arrays, over the extended reals

Each output array is tiled by the blocks its grid points write back, so it is one function of the input arrays.
-/

@[expose] public section

set_option maxRecDepth 16384

noncomputable section

open scoped BigOperators

namespace Cert.KernelIdeal.Hand

open Cert.KernelIdeal Cert.KernelIdeal.Gen Cert.Rows
open Idealize.ShloMosaic Idealize.ShloMosaic.TcCoe Idealize.ShloMosaic.ValueIdx

variable (V : (c : Dev nD) → (b : Ref sig .tc) → Buf (Elt Ideal) ((c : Thread nD τ).loc b)) (c : Dev nD)

/-! ## The first pipeline: row blocks of 256 -/

/-- The first pipeline's block indices at each point: the point's row block, the only column block. -/
theorem index0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

theorem lt_N0 (t : Fin cfg0.N) : t.val < 30 := lt_of_lt_of_eq t.isLt N_0

/-- Row `p` of point `t`'s row block. -/
abbrev rowAt0 (t : Fin cfg0.N) (p : Fin 256) : Fin 7680 := ⟨256 * t.val + p.val, by have := lt_N0 t; omega⟩

/-- The point whose block holds row `r`. -/
abbrev ptOf0 (r : Fin 7680) : Fin cfg0.N := ⟨r.val / 256, lt_of_lt_of_eq (by omega) N_0.symm⟩

/-- An input block is the array at the block's rows. -/
theorem iblk0_0_apply (t : Fin cfg0.N) (p : Fin 256) (k : Fin 7168) :
    iblk0 V c 0 t (ix2 p k) = V c main_v0 (ix2 (rowAt0 t p) k) := by
  obtain ⟨⟨e0, e1⟩, -⟩ := index0 t
  unfold iblk0
  refine congrArg (V c main_v0) (funext fun a => Fin.ext ?_)
  match a with
  | ⟨0, _⟩ => show win0_0.index t (0 : Fin 2) * 256 + 1 * p.val = 256 * t.val + p.val; omega
  | ⟨1, _⟩ => show win0_0.index t (1 : Fin 2) * 7168 + 1 * k.val = k.val; omega

/-- The codes the first pipeline leaves. -/
def codesOf : (⟨S7680x7168, .i8⟩ : BufTy).Contents (Elt Ideal) := fun i => code (fun k => V c main_v0 (ix2 (i 0) k)) (i 1)

/-- The scales the first pipeline leaves. -/
def scalesOf : (⟨S7680x1, .f32⟩ : BufTy).Contents (Elt Ideal) := fun i => rowScale fun k => V c main_v0 (ix2 (i 0) k)

/-- What a point writes back of the codes is its block of `codesOf`. -/
theorem flushed0_1 (t : Fin cfg0.N) :
    (dat0 V c).flushed 1 t = ((cfg0.win 1).blk t).view.read (Elt Ideal) (codesOf V c) := by
  show (cfg0.win 1).cut (grid0.coords t) ((dat0 V c).after 1 t) = _
  rw [after0_1, out0_1_eq]
  obtain ⟨-, ⟨e0, e1⟩, -⟩ := index0 t
  funext y
  have hb : ((cfg0.win 1).blk t).view.emb y = ix2 (rowAt0 t (y 0)) (y 1) := by
    funext a; apply Fin.ext
    match a with
    | ⟨0, _⟩ => show win0_1.index t (0 : Fin 2) * 256 + 1 * (y 0).val = 256 * t.val + (y 0).val; omega
    | ⟨1, _⟩ => show win0_1.index t (1 : Fin 2) * 7168 + 1 * (y 1).val = (y 1).val; omega
  show k0_pay3 (iblk0 V c 0 t) ((cfg0.win 1).xinj (grid0.coords t) y) = codesOf V c (((cfg0.win 1).blk t).view.emb y)
  rw [hb]
  refine (congrArg (k0_pay3 (iblk0 V c 0 t)) (eq_ix2 _)).trans ((k0_pay3_apply _ _ _).trans ?_)
  exact congrArg (fun f => code f (y 1)) (funext fun k => iblk0_0_apply V c t (y 0) k)

/-- What a point writes back of the scales is its block of `scalesOf`. -/
theorem flushed0_2 (t : Fin cfg0.N) :
    (dat0 V c).flushed 2 t = ((cfg0.win 2).blk t).view.read (Elt Ideal) (scalesOf V c) := by
  show (cfg0.win 2).cut (grid0.coords t) ((dat0 V c).after 2 t) = _
  rw [after0_2, out0_2_eq]
  obtain ⟨-, -, e0, e1⟩ := index0 t
  funext y
  have hb : ((cfg0.win 2).blk t).view.emb y = ix2 (rowAt0 t (y 0)) (y 1) := by
    funext a; apply Fin.ext
    match a with
    | ⟨0, _⟩ => show win0_2.index t (0 : Fin 2) * 256 + 1 * (y 0).val = 256 * t.val + (y 0).val; omega
    | ⟨1, _⟩ => show win0_2.index t (1 : Fin 2) * 1 + 1 * (y 1).val = (y 1).val; omega
  show k0_pay2 (iblk0 V c 0 t) ((cfg0.win 2).xinj (grid0.coords t) y) = scalesOf V c (((cfg0.win 2).blk t).view.emb y)
  rw [hb]
  refine (congrArg (k0_pay2 (iblk0 V c 0 t)) (eq_ix2 _)).trans ((k0_pay2_apply _ _ _).trans ?_)
  exact congrArg rowScale (funext fun k => iblk0_0_apply V c t (y 0) k)

/-- An index is in a point's block of codes when each coordinate is in the block's range. -/
theorem mem_blk0_1 (t : Fin cfg0.N) (i : S7680x7168.Idx) :
    i ∈ ((cfg0.win 1).blk t).view.set ↔ ∀ a : Fin 2, win0_1.index t a * S256x7168.size a ≤ (i a).val ∧ (i a).val < win0_1.index t a * S256x7168.size a + S256x7168.size a := by
  show i ∈ ((View.whole main_v1_0).slice (win0_1.rect t)).set ↔ _
  rw [View.set_slice_whole, Rect.mem_set_unit]
  exact Iff.rfl

/-- An index is in a point's block of scales when each coordinate is in the block's range. -/
theorem mem_blk0_2 (t : Fin cfg0.N) (i : S7680x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- The codes after the first pipeline. -/
theorem final0_1 : (dat0 V c).arrAt 1 cfg0.N = codesOf V c :=
  (dat0 V c).arrAt_eq_of_cover 1 _ (fun t _ => flushed0_1 V c t) fun i => by
    have h1 : (i 1).val < 7168 := (i 1).isLt
    refine ⟨ptOf0 (i 0), flush0_1 _, (mem_blk0_1 _ i).mpr fun a => ?_⟩
    obtain ⟨-, ⟨e0, e1⟩, -⟩ := index0 (ptOf0 (i 0))
    replace e0 : win0_1.index (ptOf0 (i 0)) (0 : Fin 2) = (i 0).val / 256 := e0
    match a with
    | ⟨0, _⟩ => show win0_1.index (ptOf0 (i 0)) (0 : Fin 2) * 256 ≤ (i 0).val ∧ (i 0).val < win0_1.index (ptOf0 (i 0)) (0 : Fin 2) * 256 + 256; omega
    | ⟨1, _⟩ => show win0_1.index (ptOf0 (i 0)) (1 : Fin 2) * 7168 ≤ (i 1).val ∧ (i 1).val < win0_1.index (ptOf0 (i 0)) (1 : Fin 2) * 7168 + 7168; omega

/-- The scales after the first pipeline. -/
theorem final0_2 : (dat0 V c).arrAt 2 cfg0.N = scalesOf V c :=
  (dat0 V c).arrAt_eq_of_cover 2 _ (fun t _ => flushed0_2 V c t) fun i => by
    have h1 : (i 1).val < 1 := (i 1).isLt
    refine ⟨ptOf0 (i 0), flush0_2 _, (mem_blk0_2 _ i).mpr fun a => ?_⟩
    obtain ⟨-, -, e0, e1⟩ := index0 (ptOf0 (i 0))
    replace e0 : win0_2.index (ptOf0 (i 0)) (0 : Fin 2) = (i 0).val / 256 := e0
    match a with
    | ⟨0, _⟩ => show win0_2.index (ptOf0 (i 0)) (0 : Fin 2) * 256 ≤ (i 0).val ∧ (i 0).val < win0_2.index (ptOf0 (i 0)) (0 : Fin 2) * 256 + 256; omega
    | ⟨1, _⟩ => show win0_2.index (ptOf0 (i 0)) (1 : Fin 2) * 1 ≤ (i 1).val ∧ (i 1).val < win0_2.index (ptOf0 (i 0)) (1 : Fin 2) * 1 + 1; omega

/-! ## The second pipeline: tiles of 512 by 512, the column block outermost -/

/-- The second pipeline's block indices at each point: `t % 15` is the row block, `t / 15` the column block. -/
theorem index1 : ∀ t : Fin cfg1.N, (win1_0.index t (0 : Fin 2) = t.val % 15 ∧ win1_0.index t (1 : Fin 2) = 0)
    ∧ (win1_1.index t (0 : Fin 2) = t.val % 15 ∧ win1_1.index t (1 : Fin 2) = 0)
    ∧ (win1_2.index t (0 : Fin 2) = 0 ∧ win1_2.index t (1 : Fin 2) = t.val / 15)
    ∧ (win1_3.index t (0 : Fin 2) = 0 ∧ win1_3.index t (1 : Fin 2) = t.val / 15)
    ∧ (win1_4.index t (0 : Fin 2) = 0 ∧ win1_4.index t (1 : Fin 2) = t.val / 15)
    ∧ (win1_5.index t (0 : Fin 2) = 0 ∧ win1_5.index t (1 : Fin 2) = t.val / 15)
    ∧ (win1_6.index t (0 : Fin 2) = t.val % 15 ∧ win1_6.index t (1 : Fin 2) = t.val / 15) :=
  (by decide +kernel : ∀ t : Fin grid1.N, _)

theorem lt_N1 (t : Fin cfg1.N) : t.val < 540 := lt_of_lt_of_eq t.isLt N_1

/-- Row `p` of point `t`'s row block. -/
abbrev rowAt1 (t : Fin cfg1.N) (p : Fin 512) : Fin 7680 := ⟨512 * (t.val % 15) + p.val, by omega⟩

/-- Column `q` of point `t`'s column block. -/
abbrev colAt1 (t : Fin cfg1.N) (q : Fin 512) : Fin 18432 := ⟨512 * (t.val / 15) + q.val, by have := lt_N1 t; omega⟩

/-- The point that writes the tile holding row `r` and column `n`. -/
abbrev ptOf1 (r : Fin 7680) (n : Fin 18432) : Fin cfg1.N := ⟨15 * (n.val / 512) + r.val / 512, lt_of_lt_of_eq (by omega) N_1.symm⟩

theorem iblk1_0_apply (t : Fin cfg1.N) (p : Fin 512) (k : Fin 7168) :
    iblk1 V c 0 t (ix2 p k) = V c main_v1_0 (ix2 (rowAt1 t p) k) := by
  obtain ⟨⟨e0, e1⟩, -⟩ := index1 t
  unfold iblk1
  refine congrArg (V c main_v1_0) (funext fun a => Fin.ext ?_)
  match a with
  | ⟨0, _⟩ => show win1_0.index t (0 : Fin 2) * 512 + 1 * p.val = 512 * (t.val % 15) + p.val; omega
  | ⟨1, _⟩ => show win1_0.index t (1 : Fin 2) * 7168 + 1 * k.val = k.val; omega

theorem iblk1_1_apply (t : Fin cfg1.N) (p : Fin 512) (z : Fin 1) :
    iblk1 V c 1 t (ix2 p z) = V c main_v1_1 (ix2 (rowAt1 t p) z) := by
  obtain ⟨-, ⟨e0, e1⟩, -⟩ := index1 t
  unfold iblk1
  refine congrArg (V c main_v1_1) (funext fun a => Fin.ext ?_)
  match a with
  | ⟨0, _⟩ => show win1_1.index t (0 : Fin 2) * 512 + 1 * p.val = 512 * (t.val % 15) + p.val; omega
  | ⟨1, _⟩ => show win1_1.index t (1 : Fin 2) * 1 + 1 * z.val = z.val; omega

theorem iblk1_2_apply (t : Fin cfg1.N) (k : Fin 3584) (q : Fin 512) :
    iblk1 V c 2 t (ix2 k q) = V c main_arg1 (ix2 k (colAt1 t q)) := by
  obtain ⟨-, -, ⟨e0, e1⟩, -⟩ := index1 t
  unfold iblk1
  refine congrArg (V c main_arg1) (funext fun a => Fin.ext ?_)
  match a with
  | ⟨0, _⟩ => show win1_2.index t (0 : Fin 2) * 3584 + 1 * k.val = k.val; omega
  | ⟨1, _⟩ => show win1_2.index t (1 : Fin 2) * 512 + 1 * q.val = 512 * (t.val / 15) + q.val; omega

theorem iblk1_3_apply (t : Fin cfg1.N) (z : Fin 1) (q : Fin 512) :
    iblk1 V c 3 t (ix2 z q) = V c main_v2 (ix2 z (colAt1 t q)) := by
  obtain ⟨-, -, -, ⟨e0, e1⟩, -⟩ := index1 t
  unfold iblk1
  refine congrArg (V c main_v2) (funext fun a => Fin.ext ?_)
  match a with
  | ⟨0, _⟩ => show win1_3.index t (0 : Fin 2) * 1 + 1 * z.val = z.val; omega
  | ⟨1, _⟩ => show win1_3.index t (1 : Fin 2) * 512 + 1 * q.val = 512 * (t.val / 15) + q.val; omega

theorem iblk1_4_apply (t : Fin cfg1.N) (k : Fin 3584) (q : Fin 512) :
    iblk1 V c 4 t (ix2 k q) = V c main_arg3 (ix2 k (colAt1 t q)) := by
  obtain ⟨-, -, -, -, ⟨e0, e1⟩, -⟩ := index1 t
  unfold iblk1
  refine congrArg (V c main_arg3) (funext fun a => Fin.ext ?_)
  match a with
  | ⟨0, _⟩ => show win1_4.index t (0 : Fin 2) * 3584 + 1 * k.val = k.val; omega
  | ⟨1, _⟩ => show win1_4.index t (1 : Fin 2) * 512 + 1 * q.val = 512 * (t.val / 15) + q.val; omega

theorem iblk1_5_apply (t : Fin cfg1.N) (z : Fin 1) (q : Fin 512) :
    iblk1 V c 5 t (ix2 z q) = V c main_v3 (ix2 z (colAt1 t q)) := by
  obtain ⟨-, -, -, -, -, ⟨e0, e1⟩, -⟩ := index1 t
  unfold iblk1
  refine congrArg (V c main_v3) (funext fun a => Fin.ext ?_)
  match a with
  | ⟨0, _⟩ => show win1_5.index t (0 : Fin 2) * 1 + 1 * z.val = z.val; omega
  | ⟨1, _⟩ => show win1_5.index t (1 : Fin 2) * 512 + 1 * q.val = 512 * (t.val / 15) + q.val; omega

/-- One contraction over all 7168 positions with the nibbles interleaved is the sum over the even positions with the low nibbles
    and over the odd ones with the high nibbles. -/
theorem sum_nib (f : Fin 7168 → EReal) (w : Fin 3584 → BitVec 8) :
    ∑ k : Fin 7168, f k * nib k.val (w ⟨k.val / 2, by omega⟩)
      = ∑ k : Fin 3584, f ⟨2 * k.val, by omega⟩ * lo (w k) + ∑ k : Fin 3584, f ⟨2 * k.val + 1, by omega⟩ * hi (w k) := by
  refine (sum_even_odd _).trans (congrArg₂ (· + ·) (Finset.sum_congr rfl fun k _ => ?_) (Finset.sum_congr rfl fun k _ => ?_))
  · have e : (⟨2 * k.val / 2, by omega⟩ : Fin 3584) = k := Fin.ext (by show 2 * k.val / 2 = k.val; omega)
    show f _ * nib (2 * k.val) (w ⟨2 * k.val / 2, _⟩) = _
    rw [e, nib, if_pos (by omega)]
  · have e : (⟨(2 * k.val + 1) / 2, by omega⟩ : Fin 3584) = k := Fin.ext (by show (2 * k.val + 1) / 2 = k.val; omega)
    show f _ * nib (2 * k.val + 1) (w ⟨(2 * k.val + 1) / 2, _⟩) = _
    rw [e, nib, if_neg (by omega)]

/-- The product the second pipeline leaves. -/
def outOf : (⟨S7680x18432, .bf16⟩ : BufTy).Contents (Elt Ideal) := fun i =>
  swiglu (proj (fun k => V c main_v1_0 (ix2 (i 0) k)) (V c main_v1_1 (ix2 (i 0) 0)) (fun k => V c main_arg1 (ix2 k (i 1))) (V c main_v2 (ix2 0 (i 1))))
    (proj (fun k => V c main_v1_0 (ix2 (i 0) k)) (V c main_v1_1 (ix2 (i 0) 0)) (fun k => V c main_arg3 (ix2 k (i 1))) (V c main_v3 (ix2 0 (i 1))))

/-- A tile's element is the product at the tile's row and column. -/
theorem outAt1_apply (t : Fin cfg1.N) (p q : Fin 512) :
    outAt1 V c t (ix2 p q) = outOf V c (ix2 (rowAt1 t p) (colAt1 t q)) := by
  have hg (w : Fin 3584 → BitVec 8) (W : Vec Ideal S3584x512 .i8) (hW : ∀ k, W (ix2 k q) = w k) (s : EReal) :
      (∑ k : Fin 7168, codeVal (iblk1 V c 0 t (ix2 p k)) * k1_pay1 W (ix2 k q)) * iblk1 V c 1 t (ix2 p 0) * s
        = proj (fun k => V c main_v1_0 (ix2 (rowAt1 t p) k)) (V c main_v1_1 (ix2 (rowAt1 t p) 0)) w s := by
    unfold proj
    rw [iblk1_1_apply]
    refine congrArg (· * V c main_v1_1 (ix2 (rowAt1 t p) 0) * s) (Eq.trans ?_ (sum_nib (fun k => codeVal (V c main_v1_0 (ix2 (rowAt1 t p) k))) w))
    refine Finset.sum_congr rfl fun k _ => ?_
    rw [iblk1_0_apply, k1_pay1_apply, hW]
  unfold outAt1
  rw [out1_6_eq, k1_pay3_apply, sc1_0_eq, sc1_1_eq, k1_pay2_eq,
    hg (fun k => V c main_arg1 (ix2 k (colAt1 t q))) (iblk1 V c 2 t) (fun k => iblk1_2_apply V c t k q),
    hg (fun k => V c main_arg3 (ix2 k (colAt1 t q))) (iblk1 V c 4 t) (fun k => iblk1_4_apply V c t k q),
    iblk1_3_apply, iblk1_5_apply]
  rfl

/-- What a point writes back is its tile of `outOf`. -/
theorem flushed1_6 (t : Fin cfg1.N) :
    (dat1 V c).flushed 6 t = ((cfg1.win 6).blk t).view.read (Elt Ideal) (outOf V c) := by
  show (cfg1.win 6).cut (grid1.coords t) ((dat1 V c).after 6 t) = _
  rw [after1_6]
  obtain ⟨-, -, -, -, -, -, e0, e1⟩ := index1 t
  funext y
  have hb : ((cfg1.win 6).blk t).view.emb y = ix2 (rowAt1 t (y 0)) (colAt1 t (y 1)) := by
    funext a; apply Fin.ext
    match a with
    | ⟨0, _⟩ => show win1_6.index t (0 : Fin 2) * 512 + 1 * (y 0).val = 512 * (t.val % 15) + (y 0).val; omega
    | ⟨1, _⟩ => show win1_6.index t (1 : Fin 2) * 512 + 1 * (y 1).val = 512 * (t.val / 15) + (y 1).val; omega
  show outAt1 V c t ((cfg1.win 6).xinj (grid1.coords t) y) = outOf V c (((cfg1.win 6).blk t).view.emb y)
  rw [hb]
  exact (congrArg (outAt1 V c t) (eq_ix2 _)).trans (outAt1_apply V c t _ _)

/-- An index is in a point's tile when each coordinate is in the tile's range. -/
theorem mem_blk1_6 (t : Fin cfg1.N) (i : S7680x18432.Idx) :
    i ∈ ((cfg1.win 6).blk t).view.set ↔ ∀ a : Fin 2, win1_6.index t a * S512x512.size a ≤ (i a).val ∧ (i a).val < win1_6.index t a * S512x512.size a + S512x512.size a := by
  show i ∈ ((View.whole main_v4).slice (win1_6.rect t)).set ↔ _
  rw [View.set_slice_whole, Rect.mem_set_unit]
  exact Iff.rfl

/-- The product after the second pipeline. -/
theorem final1_6 : (dat1 V c).arrAt 6 cfg1.N = outOf V c :=
  (dat1 V c).arrAt_eq_of_cover 6 _ (fun t _ => flushed1_6 V c t) fun i => by
    have h0 : (i 0).val < 7680 := (i 0).isLt
    have h1 : (i 1).val < 18432 := (i 1).isLt
    refine ⟨ptOf1 (i 0) (i 1), flush1_6 _, (mem_blk1_6 _ i).mpr fun a => ?_⟩
    obtain ⟨-, -, -, -, -, -, e0, e1⟩ := index1 (ptOf1 (i 0) (i 1))
    replace e0 : win1_6.index (ptOf1 (i 0) (i 1)) (0 : Fin 2) = (15 * ((i 1).val / 512) + (i 0).val / 512) % 15 := e0
    replace e1 : win1_6.index (ptOf1 (i 0) (i 1)) (1 : Fin 2) = (15 * ((i 1).val / 512) + (i 0).val / 512) / 15 := e1
    match a with
    | ⟨0, _⟩ =>
      show win1_6.index (ptOf1 (i 0) (i 1)) (0 : Fin 2) * 512 ≤ (i 0).val ∧ (i 0).val < win1_6.index (ptOf1 (i 0) (i 1)) (0 : Fin 2) * 512 + 512
      omega
    | ⟨1, _⟩ =>
      show win1_6.index (ptOf1 (i 0) (i 1)) (1 : Fin 2) * 512 ≤ (i 1).val ∧ (i 1).val < win1_6.index (ptOf1 (i 0) (i 1)) (1 : Fin 2) * 512 + 512
      omega

end Cert.KernelIdeal.Hand

end
-- ==== Proof.KernelIdeal.Results.lean ====
module

public import proofs.«01_k».proof.Proof.KernelIdeal.Arrays
public import proofs.«01_k».proof.Proof.KernelIdeal.Run

/-!
# The kernel's three results over the extended reals, as functions of its arguments

The reshapes around the two pipelines only rename positions: row `(b, s)` of the activations is row `640 b + s` of the pipelines' arrays.
-/

@[expose] public section

set_option maxRecDepth 16384

noncomputable section

open scoped BigOperators

namespace Cert.KernelIdeal.Hand

open Cert.KernelIdeal Cert.KernelIdeal.Gen Cert.Rows
open Idealize.ShloMosaic Idealize.ShloMosaic.TcCoe Idealize.ShloMosaic.ValueIdx

variable (m : (ℓ : Loc nD τ sig) → Buf (Elt Ideal) ℓ) (ρ : Dev nD → PrngReg) (c : Dev nD)

/-- The pipelines' row that holds row `(b, s)`. -/
abbrev flatRow (b : Fin 12) (s : Fin 640) : Fin 7680 := ⟨640 * b.val + s.val, by omega⟩

/-- Row `(b, s)` of the activations. -/
abbrev rowOf (b : Fin 12) (s : Fin 640) : Fin 7168 → EReal := fun k => m ((c : Thread nD τ).loc main_arg0) (ix3 b s k)

/-- The first pipeline's input is the activations with the two outer axes joined. -/
theorem v0_apply (b : Fin 12) (s : Fin 640) (k : Fin 7168) :
    V1 m ρ c main_v0 (ix2 (flatRow b s) k) = m ((c : Thread nD τ).loc main_arg0) (ix3 b s k) := by
  have h : V1 m ρ c main_v0 = shapeCast S7680x7168 (m ((c : Thread nD τ).loc main_arg0)) shapeCasts_S12x640x7168_S7680x7168 := by
    show StableHlo.after hostOps0 (W0 m ρ c) (Proc.devRef .tc main_v0) = _
    after_results_simp
    rfl
  rw [h]
  refine shapeCast_apply _ _ _ _ ?_
  show (S12x640x7168.rowMajor (ix3 b s k)).val = (S7680x7168.rowMajor (ix2 (flatRow b s) k)).val
  rw [Shape.rowMajor_val_two, Shape.rowMajor_val_three]
  show (b.val * 640 + s.val) * 7168 + k.val = (640 * b.val + s.val) * 7168 + k.val
  ring

/-- The codes the first pipeline leaves, at row `(b, s)`. -/
theorem codes_apply (b : Fin 12) (s : Fin 640) (k : Fin 7168) :
    W2 m ρ c (Proc.devRef .tc main_v1_0) (ix2 (flatRow b s) k) = code (rowOf m c b s) k := by
  have h : W2 m ρ c (Proc.devRef .tc main_v1_0) = codesOf (V1 m ρ) c := (W2_arr m ρ c 1).trans (final0_1 (V1 m ρ) c)
  rw [h]
  exact congrArg (fun f => code f k) (funext fun k => v0_apply m ρ c b s k)

/-- The scales the first pipeline leaves, at row `(b, s)`. -/
theorem scales_apply (b : Fin 12) (s : Fin 640) (z : Fin 1) :
    W2 m ρ c (Proc.devRef .tc main_v1_1) (ix2 (flatRow b s) z) = rowScale (rowOf m c b s) := by
  have h : W2 m ρ c (Proc.devRef .tc main_v1_1) = scalesOf (V1 m ρ) c := (W2_arr m ρ c 2).trans (final0_2 (V1 m ρ) c)
  rw [h]
  exact congrArg rowScale (funext fun k => v0_apply m ρ c b s k)

/-- The gate scales as the second pipeline reads them. -/
theorem v2_apply (n : Fin 18432) : V3 m ρ c main_v2 (ix2 0 n) = m ((c : Thread nD τ).loc main_arg2) (ix1 n) := by
  have h : V3 m ρ c main_v2 = shapeCast S1x18432 (W2 m ρ c (Proc.devRef .tc main_arg2)) shapeCasts_S18432_S1x18432 := by
    show StableHlo.after hostOps1 (W2 m ρ c) (Proc.devRef .tc main_v2) = _
    after_results_simp
    rfl
  rw [h, W2_args m ρ c main_arg2 (by decide)]
  refine shapeCast_apply _ _ _ _ ?_
  show (S18432.rowMajor (ix1 n)).val = (S1x18432.rowMajor (ix2 0 n)).val
  rw [Shape.rowMajor_val_two, Shape.rowMajor_val_one]
  show n.val = 0 * 18432 + n.val
  omega

/-- The up scales as the second pipeline reads them. -/
theorem v3_apply (n : Fin 18432) : V3 m ρ c main_v3 (ix2 0 n) = m ((c : Thread nD τ).loc main_arg4) (ix1 n) := by
  have h : V3 m ρ c main_v3 = shapeCast S1x18432 (W2 m ρ c (Proc.devRef .tc main_arg4)) shapeCasts_S18432_S1x18432 := by
    show StableHlo.after hostOps1 (W2 m ρ c) (Proc.devRef .tc main_v3) = _
    after_results_simp
    rfl
  rw [h, W2_args m ρ c main_arg4 (by decide)]
  refine shapeCast_apply _ _ _ _ ?_
  show (S18432.rowMajor (ix1 n)).val = (S1x18432.rowMajor (ix2 0 n)).val
  rw [Shape.rowMajor_val_two, Shape.rowMajor_val_one]
  show n.val = 0 * 18432 + n.val
  omega

/-- The product the second pipeline leaves, at row `(b, s)` and column `n`. -/
theorem out_apply (b : Fin 12) (s : Fin 640) (n : Fin 18432) :
    W4 m ρ c (Proc.devRef .tc main_v4) (ix2 (flatRow b s) n)
      = swiglu (proj (code (rowOf m c b s)) (rowScale (rowOf m c b s)) (fun k => m ((c : Thread nD τ).loc main_arg1) (ix2 k n))
            (m ((c : Thread nD τ).loc main_arg2) (ix1 n)))
          (proj (code (rowOf m c b s)) (rowScale (rowOf m c b s)) (fun k => m ((c : Thread nD τ).loc main_arg3) (ix2 k n))
            (m ((c : Thread nD τ).loc main_arg4) (ix1 n))) := by
  have h : W4 m ρ c (Proc.devRef .tc main_v4) = outOf (V3 m ρ) c := (W4_arr m ρ c 6).trans (final1_6 (V3 m ρ) c)
  have hc : (fun k => V3 m ρ c main_v1_0 (ix2 (flatRow b s) k)) = code (rowOf m c b s) := funext fun k =>
    (congrFun (W3_of m ρ c main_v1_0 (by decide)) _).trans (codes_apply m ρ c b s k)
  have hs : V3 m ρ c main_v1_1 (ix2 (flatRow b s) 0) = rowScale (rowOf m c b s) :=
    (congrFun (W3_of m ρ c main_v1_1 (by decide)) _).trans (scales_apply m ρ c b s 0)
  have h1 : V3 m ρ c main_arg1 = m ((c : Thread nD τ).loc main_arg1) := W3_args m ρ c main_arg1 (by decide)
  have h3 : V3 m ρ c main_arg3 = m ((c : Thread nD τ).loc main_arg3) := W3_args m ρ c main_arg3 (by decide)
  rw [h]
  show swiglu (proj (fun k => V3 m ρ c main_v1_0 (ix2 (flatRow b s) k)) (V3 m ρ c main_v1_1 (ix2 (flatRow b s) 0))
      (fun k => V3 m ρ c main_arg1 (ix2 k n)) (V3 m ρ c main_v2 (ix2 0 n)))
    (proj (fun k => V3 m ρ c main_v1_0 (ix2 (flatRow b s) k)) (V3 m ρ c main_v1_1 (ix2 (flatRow b s) 0))
      (fun k => V3 m ρ c main_arg3 (ix2 k n)) (V3 m ρ c main_v3 (ix2 0 n))) = _
  rw [hc, hs, h1, h3, v2_apply, v3_apply]

/-- The first result. -/
theorem v5_apply (b : Fin 12) (s : Fin 640) (n : Fin 18432) :
    W5 m ρ c (Proc.devRef .tc main_v5) (ix3 b s n)
      = swiglu (proj (code (rowOf m c b s)) (rowScale (rowOf m c b s)) (fun k => m ((c : Thread nD τ).loc main_arg1) (ix2 k n))
            (m ((c : Thread nD τ).loc main_arg2) (ix1 n)))
          (proj (code (rowOf m c b s)) (rowScale (rowOf m c b s)) (fun k => m ((c : Thread nD τ).loc main_arg3) (ix2 k n))
            (m ((c : Thread nD τ).loc main_arg4) (ix1 n))) := by
  have h : W5 m ρ c (Proc.devRef .tc main_v5)
      = shapeCast S12x640x18432 (W4 m ρ c (Proc.devRef .tc main_v4)) shapeCasts_S7680x18432_S12x640x18432 := by
    show StableHlo.after hostOps2 (W4 m ρ c) (Proc.devRef .tc main_v5) = _
    after_results_simp
    rfl
  rw [h]
  refine (shapeCast_apply _ _ _ (ix2 (flatRow b s) n) ?_).trans (out_apply m ρ c b s n)
  rw [Shape.rowMajor_val_two, Shape.rowMajor_val_three]
  show (640 * b.val + s.val) * 18432 + n.val = (b.val * 640 + s.val) * 18432 + n.val
  ring

/-- The second result. -/
theorem v6_apply (b : Fin 12) (s : Fin 640) (k : Fin 7168) :
    W5 m ρ c (Proc.devRef .tc main_v6) (ix3 b s k) = code (rowOf m c b s) k := by
  have h : W5 m ρ c (Proc.devRef .tc main_v6)
      = shapeCast S12x640x7168 (W4 m ρ c (Proc.devRef .tc main_v1_0)) shapeCasts_S7680x7168_S12x640x7168 := by
    show StableHlo.after hostOps2 (W4 m ρ c) (Proc.devRef .tc main_v6) = _
    after_results_simp
    rfl
  rw [h, W4_of m ρ c main_v1_0 (by decide), W3_of m ρ c main_v1_0 (by decide)]
  refine (shapeCast_apply _ _ _ (ix2 (flatRow b s) k) ?_).trans (codes_apply m ρ c b s k)
  rw [Shape.rowMajor_val_two, Shape.rowMajor_val_three]
  show (640 * b.val + s.val) * 7168 + k.val = (b.val * 640 + s.val) * 7168 + k.val
  ring

/-- The third result. -/
theorem v7_apply (b : Fin 12) (s : Fin 640) :
    W5 m ρ c (Proc.devRef .tc main_v7) (ix2 b s) = rowScale (rowOf m c b s) := by
  have h : W5 m ρ c (Proc.devRef .tc main_v7)
      = shapeCast S12x640 (W4 m ρ c (Proc.devRef .tc main_v1_1)) shapeCasts_S7680x1_S12x640 := by
    show StableHlo.after hostOps2 (W4 m ρ c) (Proc.devRef .tc main_v7) = _
    after_results_simp
    rfl
  rw [h, W4_of m ρ c main_v1_1 (by decide), W3_of m ρ c main_v1_1 (by decide)]
  refine (shapeCast_apply _ _ _ (ix2 (flatRow b s) 0) ?_).trans (scales_apply m ρ c b s 0)
  rw [Shape.rowMajor_val_two, Shape.rowMajor_val_two]
  show (640 * b.val + s.val) * 1 + 0 = b.val * 640 + s.val
  ring

end Cert.KernelIdeal.Hand

end
-- ==== Proof.Reference.lean ====
module

public import proofs.«01_k».proof.Proof.Rows
public import proofs.«01_k».proof.Proof.Gen.ReferenceIdeal.Read

/-!
# What the reference computes, element by element, over the extended reals

Its three results at an index: the scale of a row, the code of an element, and the gated product of two projections.
-/

@[expose] public section

set_option maxRecDepth 16384

noncomputable section

open scoped BigOperators

namespace Cert.ReferenceIdeal.Hand

open Cert.ReferenceIdeal Cert.ReferenceIdeal.Gen Cert.ReferenceIdeal.Read Cert.Rows
open Idealize.ShloMosaic Idealize.ShloMosaic.ValueIdx

variable (x : (⟨S12x640x7168, .bf16⟩ : BufTy).Contents (Elt Ideal))

/-- Row `(b, s)` of the activations. -/
abbrev row (b : Fin 12) (s : Fin 640) : Fin 7168 → EReal := fun k => x (ix3 b s k)

/-- The reference's maximum is the row's largest magnitude. -/
theorem v2_apply (b : Fin 12) (s : Fin 640) : val_main_v2 (F := Ideal) x (ix2 b s) = rowMax (row x b s) := by
  have hd : ∀ k : Fin 7168, reducesTo_S12x640x7168_S12x640_d2.drop (ix3 b s k) = ix2 b s := fun k => by
    funext a; apply Fin.ext
    match a with
    | ⟨0, _⟩ => exact Shape.ReducesTo.drop_apply_val_of_eq reducesTo_S12x640x7168_S12x640_d2 (ix3 b s k) 0 0
    | ⟨1, _⟩ => exact Shape.ReducesTo.drop_apply_val_of_eq reducesTo_S12x640x7168_S12x640_d2 (ix3 b s k) 1 1
  have hs : ∀ i, reducesTo_S12x640x7168_S12x640_d2.drop i = ix2 b s → ∃ k : Fin 7168, (ix3 b s k : S12x640x7168.Idx) = i :=
    fun i hi => by
      refine ⟨i 2, ?_⟩
      have h0 : (i 0).val = b.val :=
        (Shape.ReducesTo.drop_apply_val_of_eq reducesTo_S12x640x7168_S12x640_d2 i 0 0).symm.trans (congrArg Fin.val (congrFun hi 0))
      have h1 : (i 1).val = s.val :=
        (Shape.ReducesTo.drop_apply_val_of_eq reducesTo_S12x640x7168_S12x640_d2 i 1 1).symm.trans (congrArg Fin.val (congrFun hi 1))
      funext a; apply Fin.ext
      match a with
      | ⟨0, _⟩ => exact h0.symm
      | ⟨1, _⟩ => exact h1.symm
      | ⟨2, _⟩ => rfl
  unfold val_main_v2
  refine (Host.reduce_eq_fold FloatOps.maximumf _ _ reducesTo_S12x640x7168_S12x640_d2 h_S_ (ix2 b s)).trans ?_
  refine Eq.trans (congrArg (fun b => Finset.fold _ b _ _) ofBits_neg_inf) ?_
  exact fold_max_eq_sup reducesTo_S12x640x7168_S12x640_d2.drop (ix2 b s) (fun k => ix3 b s k) hd hs _

/-- The scales. -/
theorem v7_apply (b : Fin 12) (s : Fin 640) : val_main_v7 (F := Ideal) x (ix2 b s) = rowScale (row x b s) := by
  rw [val_main_v7_apply, val_main_v4_apply, val_main_v6_apply, v2_apply, val_main_v3_apply, val_main_v5_apply,
    val_main_call0_v1_apply]
  rfl

/-- The clipped, rounded quotients. -/
theorem v12_apply (b : Fin 12) (s : Fin 640) (k : Fin 7168) :
    val_main_v12 (F := Ideal) x (ix3 b s k) = clipped (row x b s) k := by
  have h8 : val_main_v9 (F := Ideal) x (ix3 b s k) = rowScale (row x b s) := by
    rw [val_main_v9_apply, val_main_v8_apply]
    exact (congrArg (val_main_v7 (F := Ideal) x) (eq_ix2 _)).trans (v7_apply x b s)
  rw [val_main_v12_apply, val_main_call2_v2_apply, val_main_v11_apply, val_main_v10_apply, h8, val_main_call2_v4_apply,
    val_main_call2_v1_apply]
  unfold clipped
  rfl

/-- The codes. -/
theorem v14_apply (b : Fin 12) (s : Fin 640) (k : Fin 7168) :
    val_main_v14 (F := Ideal) x (ix3 b s k) = code (row x b s) k := by
  rw [val_main_v14_apply, val_main_v13_apply, v12_apply]
  exact code_eq_setWidth _ _

/-- An even-row operand of the first contraction: the code at `2k`, as a number. -/
theorem v17_apply (b : Fin 12) (s : Fin 640) (k : Fin 3584) :
    val_main_v17 (F := Ideal) x (ix3 b s k) = codeVal (code (row x b s) ⟨2 * k.val, by omega⟩) := by
  have h : val_main_v15 (F := Ideal) x (ix3 b s k) = val_main_v14 (F := Ideal) x (ix3 b s ⟨2 * k.val, by omega⟩) := by
    unfold val_main_v15
    generalize val_main_v14 (F := Ideal) x = y
    unfold Host.slice
    refine congrArg y (funext fun a => Fin.ext ?_)
    match a with
    | ⟨0, _⟩ => show 0 + 1 * b.val = b.val; omega
    | ⟨1, _⟩ => show 0 + 1 * s.val = s.val; omega
    | ⟨2, _⟩ => show 0 + 2 * k.val = 2 * k.val; omega
  rw [val_main_v17_apply, val_main_v16_apply, h, v14_apply]
  unfold codeVal
  rw [← BitVec.toInt_signExtend_of_le (show 8 ≤ 32 by norm_num)]
  rfl

/-- An odd-row operand of the second: the code at `2k + 1`. -/
theorem v20_apply (b : Fin 12) (s : Fin 640) (k : Fin 3584) :
    val_main_v20 (F := Ideal) x (ix3 b s k) = codeVal (code (row x b s) ⟨2 * k.val + 1, by omega⟩) := by
  have h : val_main_v18 (F := Ideal) x (ix3 b s k) = val_main_v14 (F := Ideal) x (ix3 b s ⟨2 * k.val + 1, by omega⟩) := by
    unfold val_main_v18
    generalize val_main_v14 (F := Ideal) x = y
    unfold Host.slice
    refine congrArg y (funext fun a => Fin.ext ?_)
    match a with
    | ⟨0, _⟩ => show 0 + 1 * b.val = b.val; omega
    | ⟨1, _⟩ => show 0 + 1 * s.val = s.val; omega
    | ⟨2, _⟩ => show 1 + 2 * k.val = 2 * k.val + 1; omega
  rw [val_main_v20_apply, val_main_v19_apply, h, v14_apply]
  unfold codeVal
  rw [← BitVec.toInt_signExtend_of_le (show 8 ≤ 32 by norm_num)]
  rfl

variable (w : (⟨S3584x18432, .i8⟩ : BufTy).Contents (Elt Ideal)) (ws : (⟨S18432, .f32⟩ : BufTy).Contents (Elt Ideal))

/-- A byte's low nibble less 8. -/
theorem v27_apply (i : S3584x18432.Idx) : val_main_v27 (F := Ideal) w i = lo (w i) := by
  rw [val_main_v27_apply, val_main_v25_apply, val_main_v24_apply, val_main_v22_apply, val_main_v23_apply, val_main_v26_apply]
  have e : (IntOp.andi ((w i).setWidth 32) 15#32).toNat = (w i).toNat % 16 := by
    generalize w i = b; revert b; decide +kernel
  refine (sitofp_sub_eight (IntOp.andi ((w i).setWidth 32) 15#32) (by rw [e]; omega)).trans ?_
  rw [e]; rfl

/-- A byte's high nibble less 8. -/
theorem v32_apply (i : S3584x18432.Idx) : val_main_v32 (F := Ideal) w i = hi (w i) := by
  rw [val_main_v32_apply, val_main_v30_apply, val_main_v29_apply, val_main_v22_apply, val_main_v28_apply, val_main_v31_apply]
  have e : (IntOp.shrsi .host ((w i).setWidth 32) 4#32).toNat = (w i).toNat / 16 := by
    generalize w i = b; revert b; decide +kernel
  refine (sitofp_sub_eight (IntOp.shrsi .host ((w i).setWidth 32) 4#32) (by rw [e]; have := (w i).isLt; omega)).trans ?_
  rw [e]; rfl

/-- A projection: row `(b, s)`'s codes against column `n`. -/
theorem v40_apply (b : Fin 12) (s : Fin 640) (n : Fin 18432) :
    val_main_v40 (F := Ideal) x w ws (ix3 b s n)
      = proj (code (row x b s)) (rowScale (row x b s)) (fun k => w (ix2 k n)) (ws (ix1 n)) := by
  have h33 : val_main_v33 (F := Ideal) x w (ix3 b s n)
      = ∑ k : Fin 3584, codeVal (code (row x b s) ⟨2 * k.val, by omega⟩) * lo (w (ix2 k n)) := by
    rw [val_main_v33_apply]
    refine Finset.sum_congr rfl fun k _ => ?_
    rw [v27_apply]
    refine congrArg₂ (· * lo ·) ((congrArg (val_main_v17 (F := Ideal) x) (eq_ix3 _)).trans (v17_apply x b s k)) (congrArg w (eq_ix2 _))
  have h34 : val_main_v34 (F := Ideal) x w (ix3 b s n)
      = ∑ k : Fin 3584, codeVal (code (row x b s) ⟨2 * k.val + 1, by omega⟩) * hi (w (ix2 k n)) := by
    rw [val_main_v34_apply]
    refine Finset.sum_congr rfl fun k _ => ?_
    rw [v32_apply]
    refine congrArg₂ (· * hi ·) ((congrArg (val_main_v20 (F := Ideal) x) (eq_ix3 _)).trans (v20_apply x b s k)) (congrArg w (eq_ix2 _))
  have hs : val_main_v36 (F := Ideal) x (ix3 b s n) = rowScale (row x b s) := by
    rw [val_main_v36_apply, val_main_v21_apply]
    exact (congrArg (val_main_v7 (F := Ideal) x) (eq_ix2 _)).trans (v7_apply x b s)
  have hw : val_main_v39 (F := Ideal) ws (ix3 b s n) = ws (ix1 n) := by
    rw [val_main_v39_apply, val_main_v38_apply]
    exact congrArg ws (eq_ix1 _)
  rw [val_main_v40_apply, val_main_v37_apply, val_main_v35_apply, h33, h34, hs, hw]
  rfl

/-- The second projection is the same function of its own weights. -/
theorem v59_eq : val_main_v59 (F := Ideal) x w ws = val_main_v40 (F := Ideal) x w ws := rfl

/-- The result `h`. -/
theorem v62_apply (w' : (⟨S3584x18432, .i8⟩ : BufTy).Contents (Elt Ideal)) (ws' : (⟨S18432, .f32⟩ : BufTy).Contents (Elt Ideal))
    (b : Fin 12) (s : Fin 640) (n : Fin 18432) :
    val_main_v62 (F := Ideal) x w ws w' ws' (ix3 b s n)
      = swiglu (proj (code (row x b s)) (rowScale (row x b s)) (fun k => w (ix2 k n)) (ws (ix1 n)))
          (proj (code (row x b s)) (rowScale (row x b s)) (fun k => w' (ix2 k n)) (ws' (ix1 n))) := by
  rw [← v40_apply x w ws b s n, ← v40_apply x w' ws' b s n, ← v59_eq x w' ws', val_main_v62_apply, val_main_v61_apply,
    val_main_v60_apply, val_main_call3_v5_apply, val_main_call3_v4_apply, val_main_call3_v3_apply, val_main_call3_v2_apply,
    val_main_call3_v1_apply, val_main_call3_v0_apply, val_main_call3_cst_apply, val_main_call3_cst_0_apply]
  generalize val_main_v40 (F := Ideal) x w ws (ix3 b s n) = g
  generalize val_main_v59 (F := Ideal) x w' ws' (ix3 b s n) = u
  have h1 : Ideal.ofBits .f32 0x3F800000#32 = 1 := Ideal.ofBits_one_f32
  show g * Ideal.div (Ideal.ofBits .f32 0x3F800000#32) (Ideal.ofBits .f32 0x3F800000#32 + Ideal.exp (-g)) * u = swiglu g u
  rw [h1]
  rfl

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.KernelIdeal.Results
public import proofs.«01_k».proof.Proof.Reference
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Idealize.ShloMosaic.ValueIdx

/-- From memories that agree on the arguments, both programs end with the same three results: each element of each result is the
    same expression of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.W5 m g c (Proc.devRef .tc Cert.KernelIdeal.main_v5),
    fun c => Cert.KernelIdeal.Hand.W5 m g c (Proc.devRef .tc Cert.KernelIdeal.main_v6),
    fun c => Cert.KernelIdeal.Hand.W5 m g c (Proc.devRef .tc Cert.KernelIdeal.main_v7), ?_, ?_⟩
  · refine (θ_run _ _ _).mono (fun r h c => ?_) (Cert.KernelIdeal.Hand.run m g)
    obtain ⟨h0, h1, h2, h3, h4, h5, h6, h7⟩ := h.1 c
    exact ⟨h5, h6, h7, h0, h1, h2, h3, h4⟩
  · refine (θ_run _ _ _).mono (fun r h c => ?_) (Cert.ReferenceIdeal.Value.run m' g')
    obtain ⟨h62, h14, h7, hrest⟩ := h c
    obtain ⟨e0, e1, e2, e3, e4⟩ := hargs c
    refine ⟨h62.trans ?_, h14.trans ?_, h7.trans ?_, hrest⟩
    · rw [Cert.ReferenceIdeal.Read.val_main_v62_eq, e0, e1, e2, e3, e4]
      funext i
      obtain ⟨b, s, n, rfl⟩ : ∃ b s n, i = ix3 b s n := ⟨i 0, i 1, i 2, eq_ix3 i⟩
      exact (Cert.ReferenceIdeal.Hand.v62_apply _ _ _ _ _ b s n).trans (Cert.KernelIdeal.Hand.v5_apply m g c b s n).symm
    · rw [Cert.ReferenceIdeal.Read.val_main_v14_eq, e0]
      funext i
      obtain ⟨b, s, k, rfl⟩ : ∃ b s k, i = ix3 b s k := ⟨i 0, i 1, i 2, eq_ix3 i⟩
      exact (Cert.ReferenceIdeal.Hand.v14_apply _ b s k).trans (Cert.KernelIdeal.Hand.v6_apply m g c b s k).symm
    · rw [Cert.ReferenceIdeal.Read.val_main_v7_eq, e0]
      funext i
      obtain ⟨b, s, rfl⟩ : ∃ b s, i = ix2 b s := ⟨i 0, i 1, eq_ix2 i⟩
      exact (Cert.ReferenceIdeal.Hand.v7_apply _ b s).trans (Cert.KernelIdeal.Hand.v7_apply m g c b s).symm

theorem claim : Cert.Claim := ⟨Cert.Kernel.Gen.facts, Cert.KernelIdeal.Gen.facts, Cert.ReferenceIdeal.Gen.facts,
  fun m ρ _ => Cert.Kernel.Hand.frame m ρ,
  fun m ρ _ => Cert.KernelIdeal.Hand.frame m ρ,
  fun m ρ _ => (θ_run _ _ _).mono (fun r h => ⟨fun c => (h c).2.2.2, sem_eq_zero_of_no_sems (by decide) r.2⟩)
    (Cert.ReferenceIdeal.Value.run m ρ),
  trivial,
  algebraic⟩

end Cert.Proof

end
